-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_proposals [hPre_finite_proposals : Cert.Pre_finite_proposals.Facts] (m : (ℓ : Loc Cert.KernelIdeal.nD Cert.KernelIdeal.τ Cert.KernelIdeal.sig) → Buf (Elt Ideal) ℓ) : Prop :=
  ∀ c : Dev Cert.KernelIdeal.nD,
    (Cert.Pre_finite_proposals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_proposals [hPre_finite_proposals : Cert.Pre_finite_proposals.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_proposals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_proposals [hKernelIdeal : Cert.KernelIdeal.Facts] [hPre_finite_proposals : Cert.Pre_finite_proposals.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_proposals m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_proposals [hReferenceIdeal : Cert.ReferenceIdeal.Facts] [hPre_finite_proposals : Cert.Pre_finite_proposals.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_proposals m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_proposals [hKernelIdeal : Cert.KernelIdeal.Facts] [hReferenceIdeal : Cert.ReferenceIdeal.Facts] [hPre_finite_proposals : Cert.Pre_finite_proposals.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_proposals m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_proposals : Cert.Pre_finite_proposals.Facts),
    quiescent_Kernel (hKernel := hKernel)
    ∧ quiescent_KernelIdeal (hKernelIdeal := hKernelIdeal)
    ∧ quiescent_KernelIdeal_pre_finite_proposals (hKernelIdeal := hKernelIdeal) (hPre_finite_proposals := hPre_finite_proposals)
    ∧ quiescent_ReferenceIdeal (hReferenceIdeal := hReferenceIdeal)
    ∧ quiescent_ReferenceIdeal_pre_finite_proposals (hReferenceIdeal := hReferenceIdeal) (hPre_finite_proposals := hPre_finite_proposals)
    ∧ preserves_Kernel_KernelIdeal
    ∧ algebraic_KernelIdeal_ReferenceIdeal_pre_finite_proposals (hKernelIdeal := hKernelIdeal) (hReferenceIdeal := hReferenceIdeal) (hPre_finite_proposals := hPre_finite_proposals)
-- ==== Pre_finite_proposals.lean ====
abbrev S_ : Shape := ⟨0, ![]⟩
abbrev S1024 : Shape := ⟨1, ![1024]⟩
abbrev S1024x64 : Shape := ⟨2, ![1024, 64]⟩
abbrev S1024x1024x64 : Shape := ⟨3, ![1024, 1024, 64]⟩
abbrev S1024x1024 : Shape := ⟨2, ![1024, 1024]⟩
abbrev S1024x2 : Shape := ⟨2, ![1024, 2]⟩

class Facts : Prop where
  bcast_S_S1024x64 : S_.BroadcastsInDim S1024x64 (![] : Fin 0 → Fin S1024x64.rank)

variable [Facts]

def fn {F : FTy → Type} [FloatOps F] (main_arg0 : IVec S_ 32) (main_arg1 : FVec F S1024 .f32) (main_arg2 : FVec F S1024x64 .f32) (main_arg3 : FVec F S1024x64 .f32) (main_arg4 : FVec F S1024x1024x64 .f32) (main_arg5 : FVec F S1024x1024 .f32) (main_arg6 : FVec F S1024x2 .f32) (main_arg7 : FVec F S1024x64 .f32) (main_arg8 : IVec S1024 32) (main_arg9 : IVec S1024 32) : IVec S1024x64 1 :=
  let main_v0 : FVec F S1024x64 .f32 := Host.absf main_arg3
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  main_v2
-- ==== Kernel.lean ====
abbrev S_ : Shape := ⟨0, ![]⟩
abbrev S1024 : Shape := ⟨1, ![1024]⟩
abbrev S1024x64 : Shape := ⟨2, ![1024, 64]⟩
abbrev S1024x1024x64 : Shape := ⟨3, ![1024, 1024, 64]⟩
abbrev S1024x1024 : Shape := ⟨2, ![1024, 1024]⟩
abbrev S1024x2 : Shape := ⟨2, ![1024, 2]⟩
abbrev S1024x512x128 : Shape := ⟨3, ![1024, 512, 128]⟩
abbrev S32x32x512x2 : Shape := ⟨4, ![32, 32, 512, 2]⟩
abbrev S32x512x2x32 : Shape := ⟨4, ![32, 512, 2, 32]⟩
abbrev S32x512x64 : Shape := ⟨3, ![32, 512, 64]⟩
abbrev S32x1x32 : Shape := ⟨3, ![32, 1, 32]⟩
abbrev S512x128 : Shape := ⟨2, ![512, 128]⟩
abbrev S512x2 : Shape := ⟨2, ![512, 2]⟩
abbrev S32x512x128 : Shape := ⟨3, ![32, 512, 128]⟩
abbrev S1x512x64 : Shape := ⟨3, ![1, 512, 64]⟩
abbrev S1x1x32 : Shape := ⟨3, ![1, 1, 32]⟩
abbrev S512x1 : Shape := ⟨2, ![512, 1]⟩
abbrev S1x32 : Shape := ⟨2, ![1, 32]⟩
abbrev S1x64 : Shape := ⟨2, ![1, 64]⟩
abbrev S512x64 : Shape := ⟨2, ![512, 64]⟩
abbrev S512x32 : Shape := ⟨2, ![512, 32]⟩
abbrev S512 : Shape := ⟨1, ![512]⟩
abbrev S512x128x1 : Shape := ⟨3, ![512, 128, 1]⟩
abbrev S1x512x128 : Shape := ⟨3, ![1, 512, 128]⟩
abbrev S64x128 : Shape := ⟨2, ![64, 128]⟩
abbrev S1x64x128 : Shape := ⟨3, ![1, 64, 128]⟩
abbrev S1024x1 : Shape := ⟨2, ![1024, 1]⟩
abbrev S1024x65 : Shape := ⟨2, ![1024, 65]⟩

abbrev nBuf : Space → Nat
  | .hbm => 27
  | .vmem => 25
  | .smem => 0
  | _ => 0

abbrev bufTy : (tb : Table) → Fin (tcTables nBuf tb) → BufTy
  | .hbm, ⟨0, _⟩ => ⟨S_, .i32⟩
  | .hbm, ⟨1, _⟩ => ⟨S1024, .f32⟩
  | .hbm, ⟨2, _⟩ => ⟨S1024x64, .f32⟩
  | .hbm, ⟨3, _⟩ => ⟨S1024x64, .f32⟩
  | .hbm, ⟨4, _⟩ => ⟨S1024x1024x64, .f32⟩
  | .hbm, ⟨5, _⟩ => ⟨S1024x1024, .f32⟩
  | .hbm, ⟨6, _⟩ => ⟨S1024x2, .f32⟩
  | .hbm, ⟨7, _⟩ => ⟨S1024x64, .f32⟩
  | .hbm, ⟨8, _⟩ => ⟨S1024, .i32⟩
  | .hbm, ⟨9, _⟩ => ⟨S1024, .i32⟩
  | .hbm, ⟨10, _⟩ => ⟨S1024x512x128, .f32⟩
  | .hbm, ⟨11, _⟩ => ⟨S32x32x512x2, .f32⟩
  | .hbm, ⟨12, _⟩ => ⟨S32x512x2x32, .f32⟩
  | .hbm, ⟨13, _⟩ => ⟨S32x512x64, .f32⟩
  | .hbm, ⟨14, _⟩ => ⟨S32x1x32, .f32⟩
  | .hbm, ⟨15, _⟩ => ⟨S512x128, .f32⟩
  | .hbm, ⟨16, _⟩ => ⟨S512x2, .f32⟩
  | .hbm, ⟨17, _⟩ => ⟨S512x2, .f32⟩
  | .hbm, ⟨18, _⟩ => ⟨S1024x64, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S1024x1, .i32⟩
  | .hbm, ⟨23, _⟩ => ⟨S1024x1, .i32⟩
  | .hbm, ⟨24, _⟩ => ⟨S1024x1, .f32⟩
  | .hbm, ⟨25, _⟩ => ⟨S1024x64, .f32⟩
  | .hbm, ⟨26, _⟩ => ⟨S1024, .f32⟩
  | .local _ .vmem, ⟨0, _⟩ => ⟨S32x512x128, .f32⟩
  | .local _ .vmem, ⟨1, _⟩ => ⟨S32x512x128, .f32⟩
  | .local _ .vmem, ⟨2, _⟩ => ⟨S1x512x64, .f32⟩
  | .local _ .vmem, ⟨3, _⟩ => ⟨S1x512x64, .f32⟩
  | .local _ .vmem, ⟨4, _⟩ => ⟨S1x1x32, .f32⟩
  | .local _ .vmem, ⟨5, _⟩ => ⟨S1x1x32, .f32⟩
  | .local _ .vmem, ⟨6, _⟩ => ⟨S512x128, .f32⟩
  | .local _ .vmem, ⟨7, _⟩ => ⟨S512x2, .f32⟩
  | .local _ .vmem, ⟨8, _⟩ => ⟨S512x2, .f32⟩
  | .local _ .vmem, ⟨9, _⟩ => ⟨S512x128, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S32x512x128, .f32⟩
  | .local _ .vmem, ⟨15, _⟩ => ⟨S1024x1, .f32⟩
  | .local _ .vmem, ⟨16, _⟩ => ⟨S1024x1, .f32⟩
  | .local _ .vmem, ⟨17, _⟩ => ⟨S1024x2, .f32⟩
  | .local _ .vmem, ⟨18, _⟩ => ⟨S1024x64, .f32⟩
  | .local _ .vmem, ⟨19, _⟩ => ⟨S1024x1, .i32⟩
  | .local _ .vmem, ⟨20, _⟩ => ⟨S1024x1, .i32⟩
  | .local _ .vmem, ⟨21, _⟩ => ⟨S1024x64, .f32⟩
  | .local _ .vmem, ⟨22, _⟩ => ⟨S1024x1, .f32⟩
  | .local _ .vmem, ⟨23, _⟩ => ⟨S1024x1, .f32⟩
  | .local _ .vmem, ⟨24, _⟩ => ⟨S1024x64, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_1738 : BitVec 32 := 31#32
  let v2107 : BitVec 1 := Scalar.cmpi .eq arg0 c31_i32_1738
  let v2108 : BitVec 32 := Scalar.extui v2107
  let c0_i32_1739 : BitVec 32 := 0#32
  let v2109 : BitVec 1 := Scalar.cmpi .ne v2108 c0_i32_1739
  v2109

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

abbrev stage1_0 : Fin 1 → Memref sig .tc .vmem S1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1024x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S_ : Shape := ⟨0, ![]⟩
abbrev S1024 : Shape := ⟨1, ![1024]⟩
abbrev S1024x64 : Shape := ⟨2, ![1024, 64]⟩
abbrev S1024x1024x64 : Shape := ⟨3, ![1024, 1024, 64]⟩
abbrev S1024x1024 : Shape := ⟨2, ![1024, 1024]⟩
abbrev S1024x2 : Shape := ⟨2, ![1024, 2]⟩
abbrev S1024x1 : Shape := ⟨2, ![1024, 1]⟩

abbrev nBuf : Space → Nat
  | .hbm => 95
  | .vmem => 0
  | .smem => 0
  | _ => 0

abbrev bufTy : (tb : Table) → Fin (tcTables nBuf tb) → BufTy
  | .hbm, ⟨0, _⟩ => ⟨S_, .i32⟩
  | .hbm, ⟨1, _⟩ => ⟨S1024, .f32⟩
  | .hbm, ⟨2, _⟩ => ⟨S1024x64, .f32⟩
  | .hbm, ⟨3, _⟩ => ⟨S1024x64, .f32⟩
  | .hbm, ⟨4, _⟩ => ⟨S1024x1024x64, .f32⟩
  | .hbm, ⟨5, _⟩ => ⟨S1024x1024, .f32⟩
  | .hbm, ⟨6, _⟩ => ⟨S1024x2, .f32⟩
  | .hbm, ⟨7, _⟩ => ⟨S1024x64, .f32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S_, .f32⟩
  | .hbm, ⟨29, _⟩ => ⟨S1024, .f32⟩
  | .hbm, ⟨30, _⟩ => ⟨S1024x1024, .f32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1024x1, .i32⟩
  | .hbm, ⟨48, _⟩ => ⟨S1024x2, .i32⟩
  | .hbm, ⟨49, _⟩ => ⟨S1024, .f32⟩
  | .hbm, ⟨50, _⟩ => ⟨S1024x1, .f32⟩
  | .hbm, ⟨51, _⟩ => ⟨S1024, .f32⟩
  | .hbm, ⟨52, _⟩ => ⟨S1024x1, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024x1, .i32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024x1, .i32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1024x1, .f32⟩
  | .hbm, ⟨70, _⟩ => ⟨S1024x64, .f32⟩
  | .hbm, ⟨71, _⟩ => ⟨S1024x64, .f32⟩
  | .hbm, ⟨72, _⟩ => ⟨S_, .f32⟩
  | .hbm, ⟨73, _⟩ => ⟨S1024x64, .f32⟩
  | .hbm, ⟨74, _⟩ => ⟨S1024x1, .i32⟩
  | .hbm, ⟨75, _⟩ => ⟨S1024x64, .f32⟩
  | .hbm, ⟨76, _⟩ => ⟨S1024x1, .f32⟩
  | .hbm, ⟨77, _⟩ => ⟨S1024x64, .f32⟩
  | .hbm, ⟨78, _⟩ => ⟨S1024x64, .f32⟩
  | .hbm, ⟨79, _⟩ => ⟨S_, .f32⟩
  | .hbm, ⟨80, _⟩ => ⟨S1024x64, .f32⟩
  | .hbm, ⟨81, _⟩ => ⟨S1024x1, .i32⟩
  | .hbm, ⟨82, _⟩ => ⟨S1024x64, .f32⟩
  | .hbm, ⟨83, _⟩ => ⟨S1024x1, .f32⟩
  | .hbm, ⟨84, _⟩ => ⟨S1024x1024, .f32⟩
  | .hbm, ⟨85, _⟩ => ⟨S1024x1024, .f32⟩
  | .hbm, ⟨86, _⟩ => ⟨S1024x64, .f32⟩
  | .hbm, ⟨87, _⟩ => ⟨S1024x64, .f32⟩
  | .hbm, ⟨88, _⟩ => ⟨S1024x64, .f32⟩
  | .hbm, ⟨89, _⟩ => ⟨S1024x1, .f32⟩
  | .hbm, ⟨90, _⟩ => ⟨S_, .f32⟩
  | .hbm, ⟨91, _⟩ => ⟨S1024x1, .f32⟩
  | .hbm, ⟨92, _⟩ => ⟨S1024x1, .f32⟩
  | .hbm, ⟨93, _⟩ => ⟨S1024x64, .f32⟩
  | .hbm, ⟨94, _⟩ => ⟨S1024x64, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Proof.Ideal.Points.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's points: window blocks, branch conditions, staging and scratch buffers -/

/-- Every buffer's contents on every core as the first region finds them. -/
abbrev Bufs : Type := (c : Dev nD) → (b : Ref sig .tc) → Buf (Elt F) ((c : Thread nD τ).loc b)

/-- The block of window `w` at point `t`, read off its array. -/
def iblk0 (V : Bufs (F := F)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point. -/
theorem before0_0_of (V : Bufs (F := F)) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the window's block at every point. -/
theorem before0_1_of (V : Bufs (F := F)) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds the window's block at every point. -/
theorem before0_2_of (V : Bufs (F := F)) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The test of the initialising branch: the block index is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val = 0)

/-- The test of the finalising branch: the block index is the last. -/
abbrev cond0_1 (i : grid0.Coords) : Prop := k0_cond2 i = 1#1
/-- It holds at the last point only. -/
theorem hcond0_1 : ∀ t : Fin cfg0.N, cond0_1 (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val = 31)

/-- Output window 3 is idle and not written back before the last point, and live at the last. -/
theorem idle0_3 : ∀ t : Fin cfg0.N, ¬cond0_1 (grid0.coords t) → cfg0.idle 3 (grid0.coords t) = true := by decide +kernel
/-- Window 3 is not written back before the last point. -/
theorem noFlush0_3 : ∀ t : Fin cfg0.N, ¬cond0_1 (grid0.coords t) → (cfg0.win 3).flush t = false := by decide +kernel
/-- Window 3 is in use at the last point. -/
theorem live0_3 : ∀ t : Fin cfg0.N, cond0_1 (grid0.coords t) → cfg0.idle 3 (grid0.coords t) = false := by decide +kernel
/-- Output window 4 is idle and not written back before the last point, and live at the last. -/
theorem idle0_4 : ∀ t : Fin cfg0.N, ¬cond0_1 (grid0.coords t) → cfg0.idle 4 (grid0.coords t) = true := by decide +kernel
/-- Window 4 is not written back before the last point. -/
theorem noFlush0_4 : ∀ t : Fin cfg0.N, ¬cond0_1 (grid0.coords t) → (cfg0.win 4).flush t = false := by decide +kernel
/-- Window 4 is in use at the last point. -/
theorem live0_4 : ∀ t : Fin cfg0.N, cond0_1 (grid0.coords t) → cfg0.idle 4 (grid0.coords t) = false := by decide +kernel
/-- Output window 5 is idle and not written back before the last point, and live at the last. -/
theorem idle0_5 : ∀ t : Fin cfg0.N, ¬cond0_1 (grid0.coords t) → cfg0.idle 5 (grid0.coords t) = true := by decide +kernel
/-- Window 5 is not written back before the last point. -/
theorem noFlush0_5 : ∀ t : Fin cfg0.N, ¬cond0_1 (grid0.coords t) → (cfg0.win 5).flush t = false := by decide +kernel
/-- Window 5 is in use at the last point. -/
theorem live0_5 : ∀ t : Fin cfg0.N, cond0_1 (grid0.coords t) → cfg0.idle 5 (grid0.coords t) = false := by decide +kernel

/-! Each window's staging buffer at a point, and the scratch buffers. -/
abbrev ms0_0 (t : Fin cfg0.N) : Memref sig .tc .vmem S32x512x128 .f32 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S1x512x64 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1x1x32 .f32 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S512x128 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S512x2 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S512x2 .f32 := win0_5.stage (cfg0.slots t 5)
/-- Window 5's staging buffer is whole. -/
abbrev hs0_5 (t : Fin cfg0.N) : (ms0_5 t).IsWhole := hstage0_5 ((cfg0.slots t 5).cast nbuf0_5)
/-- Scratch buffer 0 of the first call. -/
abbrev scM0_0 : Memref sig .tc .vmem S512x128 .f32 := Memref.whole cc0_scratch0
/-- Scratch buffer 1 of the first call. -/
abbrev scM0_1 : Memref sig .tc .vmem S512x1 .f32 := Memref.whole cc0_scratch1
/-- Scratch buffer 2 of the first call. -/
abbrev scM0_2 : Memref sig .tc .vmem S512x1 .f32 := Memref.whole cc0_scratch2
/-- Scratch buffer 3 of the first call. -/
abbrev scM0_3 : Memref sig .tc .vmem S512x1 .f32 := Memref.whole cc0_scratch3
/-- Scratch buffer 4 of the first call. -/
abbrev scM0_4 : Memref sig .tc .vmem S512x1 .f32 := Memref.whole cc0_scratch4
/-- Scratch buffer 5 of the first call. -/
abbrev scM0_5 : Memref sig .tc .vmem S32x512x128 .f32 := Memref.whole cc0_scratch5

/-- The second region's staging buffers, which the first region does not touch. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f))

/-- The region's scoped buffers and the generator register, the scratch as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ others c) ∗ (∃ r, prngReg c r)) := by
  unfold Pipeline.ΦA others; rw [scopedRest0_eq]; simp only [scM0_0, scM0_1, scM0_2, scM0_3, scM0_4, scM0_5, owns_whole]; try rfl

end Cert.KernelIdeal.Hand

end
-- ==== Proof.Ideal.RunA.lean ====
module

public import proofs.«01_k».proof.Proof.Ideal.Points

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3300000 in
/-- The body of the first kernel at a first point: the carried scratch starts at anything, is initialised, then updated. The lists of stores it makes are found by running it, with the
    proof that from the inputs' and the scratch's contents it leaves the inputs as they were and the stores made. -/
noncomputable def kernelRun0_A (c : Dev nD) (i : grid0.Coords) (arg1 : Memref sig .tc .vmem S32x512x128 .f32) (harg1 : arg1.IsWhole) (arg2 : Memref sig .tc .vmem S1x512x64 .f32) (harg2 : arg2.IsWhole) (arg3 : Memref sig .tc .vmem S1x1x32 .f32) (harg3 : arg3.IsWhole) (arg4 : Memref sig .tc .vmem S512x128 .f32) (harg4 : arg4.IsWhole) (arg5 : Memref sig .tc .vmem S512x2 .f32) (harg5 : arg5.IsWhole) (arg6 : Memref sig .tc .vmem S512x2 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S32x512x128 .f32) (harg12 : arg12.IsWhole) (hc0 : cond0_0 i) (hc1 : ¬cond0_1 i)
    (x0 : Vec F S32x512x128 .f32) (x1 : Vec F S1x512x64 .f32) (x2 : Vec F S1x1x32 .f32) :
    Σ' (L3 : List (View.Piece (Elt F) S512x128 .f32)), Σ' (L4 : List (View.Piece (Elt F) S512x2 .f32)), Σ' (L5 : List (View.Piece (Elt F) S512x2 .f32)), Σ' (LS0 : List (View.Piece (Elt F) S512x128 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), { LT5 : List (View.Piece (Elt F) S32x512x128 .f32) //
      ∀ (xi3 : Vec F S512x128 .f32) (xi4 : Vec F S512x2 .f32) (xi5 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LT5)) -∗ K ⟨⟩))
          ⊢ wp frame (wpE (defs₀ (F := F)) Variants.none c none) E (cc0__stream_body i arg1 harg1 arg2 harg2 arg3 harg3 arg4 harg4 arg5 harg5 arg6 harg6 arg7 harg7 arg8 harg8 arg9 harg9 arg10 harg10 arg11 harg11 arg12 harg12) K } := by
  refine ⟨[], [], [], ?_, ?_, ?_, ?_, ?_, ?_, fun xi3 xi4 xi5 E K => ?run⟩
  case run =>
    simp only [cc0__stream_body_eq_skeleton]; unfold cc0__stream_body_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.Ideal.RunB.lean ====
module

public import proofs.«01_k».proof.Proof.Ideal.Points

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3300000 in
/-- The body of the first kernel at a middle points: the carried scratch is updated. The lists of stores it makes are found by running it, with the
    proof that from the inputs' and the scratch's contents it leaves the inputs as they were and the stores made. -/
noncomputable def kernelRun0_B (c : Dev nD) (i : grid0.Coords) (arg1 : Memref sig .tc .vmem S32x512x128 .f32) (harg1 : arg1.IsWhole) (arg2 : Memref sig .tc .vmem S1x512x64 .f32) (harg2 : arg2.IsWhole) (arg3 : Memref sig .tc .vmem S1x1x32 .f32) (harg3 : arg3.IsWhole) (arg4 : Memref sig .tc .vmem S512x128 .f32) (harg4 : arg4.IsWhole) (arg5 : Memref sig .tc .vmem S512x2 .f32) (harg5 : arg5.IsWhole) (arg6 : Memref sig .tc .vmem S512x2 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S32x512x128 .f32) (harg12 : arg12.IsWhole) (hc0 : ¬cond0_0 i) (hc1 : ¬cond0_1 i)
    (x0 : Vec F S32x512x128 .f32) (x1 : Vec F S1x512x64 .f32) (x2 : Vec F S1x1x32 .f32) (xs0 : Vec F S512x128 .f32) (xs1 : Vec F S512x1 .f32) (xs2 : Vec F S512x1 .f32) (xs3 : Vec F S512x1 .f32) (xs4 : Vec F S512x1 .f32) :
    Σ' (L3 : List (View.Piece (Elt F) S512x128 .f32)), Σ' (L4 : List (View.Piece (Elt F) S512x2 .f32)), Σ' (L5 : List (View.Piece (Elt F) S512x2 .f32)), Σ' (LS0 : List (View.Piece (Elt F) S512x128 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), { LT5 : List (View.Piece (Elt F) S32x512x128 .f32) //
      ∀ (xi3 : Vec F S512x128 .f32) (xi4 : Vec F S512x2 .f32) (xi5 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LT5)) -∗ K ⟨⟩))
          ⊢ wp frame (wpE (defs₀ (F := F)) Variants.none c none) E (cc0__stream_body i arg1 harg1 arg2 harg2 arg3 harg3 arg4 harg4 arg5 harg5 arg6 harg6 arg7 harg7 arg8 harg8 arg9 harg9 arg10 harg10 arg11 harg11 arg12 harg12) K } := by
  refine ⟨[], [], [], ?_, ?_, ?_, ?_, ?_, ?_, fun xi3 xi4 xi5 E K => ?run⟩
  case run =>
    simp only [cc0__stream_body_eq_skeleton]; unfold cc0__stream_body_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2; obtain rfl := harg10.eq_unread hfs3; obtain rfl := harg11.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.Ideal.RunC.lean ====
module

public import proofs.«01_k».proof.Proof.Ideal.Points

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3300000 in
/-- The body of the first kernel at a last point: the carried scratch is updated and the outputs stored. The lists of stores it makes are found by running it, with the
    proof that from the inputs' and the scratch's contents it leaves the inputs as they were and the stores made. -/
noncomputable def kernelRun0_C (c : Dev nD) (i : grid0.Coords) (arg1 : Memref sig .tc .vmem S32x512x128 .f32) (harg1 : arg1.IsWhole) (arg2 : Memref sig .tc .vmem S1x512x64 .f32) (harg2 : arg2.IsWhole) (arg3 : Memref sig .tc .vmem S1x1x32 .f32) (harg3 : arg3.IsWhole) (arg4 : Memref sig .tc .vmem S512x128 .f32) (harg4 : arg4.IsWhole) (arg5 : Memref sig .tc .vmem S512x2 .f32) (harg5 : arg5.IsWhole) (arg6 : Memref sig .tc .vmem S512x2 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S32x512x128 .f32) (harg12 : arg12.IsWhole) (hc0 : ¬cond0_0 i) (hc1 : cond0_1 i)
    (x0 : Vec F S32x512x128 .f32) (x1 : Vec F S1x512x64 .f32) (x2 : Vec F S1x1x32 .f32) (xs0 : Vec F S512x128 .f32) (xs1 : Vec F S512x1 .f32) (xs2 : Vec F S512x1 .f32) (xs3 : Vec F S512x1 .f32) (xs4 : Vec F S512x1 .f32) :
    Σ' (L3 : List (View.Piece (Elt F) S512x128 .f32)), Σ' (L4 : List (View.Piece (Elt F) S512x2 .f32)), Σ' (L5 : List (View.Piece (Elt F) S512x2 .f32)), Σ' (LS0 : List (View.Piece (Elt F) S512x128 .f32)), Σ' (LS1 : List (View.Piece (Elt F) S512x1 .f32)), Σ' (LS2 : List (View.Piece (Elt F) S512x1 .f32)), Σ' (LS3 : List (View.Piece (Elt F) S512x1 .f32)), Σ' (LS4 : List (View.Piece (Elt F) S512x1 .f32)), { LT5 : List (View.Piece (Elt F) S32x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LT5)) -∗ K ⟨⟩))
          ⊢ wp frame (wpE (defs₀ (F := F)) Variants.none c none) E (cc0__stream_body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, fun E K => ?run⟩
  case run =>
    simp only [cc0__stream_body_eq_skeleton]; unfold cc0__stream_body_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, Hk⟩
    obtain rfl := harg1.eq_unread hf0; obtain rfl := harg2.eq_unread hf1; obtain rfl := harg3.eq_unread hf2; obtain rfl := harg7.eq_unread hfs0; obtain rfl := harg8.eq_unread hfs1; obtain rfl := harg9.eq_unread hfs2; obtain rfl := harg10.eq_unread hfs3; obtain rfl := harg11.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.Ideal.Step.lean ====
module

public import proofs.«01_k».proof.Proof.Ideal.RunA
public import proofs.«01_k».proof.Proof.Ideal.RunB
public import proofs.«01_k».proof.Proof.Ideal.RunC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of the first kernel's body at a point, and what they leave -/

/-- What the kernel carries from point to point: the accumulator, the two skip sums, the two diagonal sums. -/
abbrev Carry (F : FTy → Type) : Type := Vec F S512x128 .f32 × Vec F S512x1 .f32 × Vec F S512x1 .f32 × Vec F S512x1 .f32 × Vec F S512x1 .f32

variable (c : Dev nD) (t : Fin cfg0.N)

/-- The body's run at the first point, on the point's own buffers. -/
abbrev runA (h0 : cond0_0 (grid0.coords t)) (h1 : ¬cond0_1 (grid0.coords t)) (x0 : Vec F S32x512x128 .f32) (x1 : Vec F S1x512x64 .f32) (x2 : Vec F S1x1x32 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) h0 h1 x0 x1 x2
/-- The first point's stores into scratch 0 cover it. -/
theorem scoverA_0 (h0 : cond0_0 (grid0.coords t)) (h1 : ¬cond0_1 (grid0.coords t)) (x0 : Vec F S32x512x128 .f32) (x1 : Vec F S1x512x64 .f32) (x2 : Vec F S1x1x32 .f32) (y : S512x128.Idx) :
    ∃ pc ∈ (runA c t h0 h1 x0 x1 x2).2.2.2.1, y ∈ pc.1.set :=
  View.cover_of_wholeMem (runA c t h0 h1 x0 x1 x2).2.2.2.1 (by sl_whole_mem) y
/-- The first point's stores into scratch 1 cover it. -/
theorem scoverA_1 (h0 : cond0_0 (grid0.coords t)) (h1 : ¬cond0_1 (grid0.coords t)) (x0 : Vec F S32x512x128 .f32) (x1 : Vec F S1x512x64 .f32) (x2 : Vec F S1x1x32 .f32) (y : S512x1.Idx) :
    ∃ pc ∈ (runA c t h0 h1 x0 x1 x2).2.2.2.2.1, y ∈ pc.1.set :=
  View.cover_of_tiledL (runA c t h0 h1 x0 x1 x2).2.2.2.2.1 S512x1.size (by sl_kernel_rfl) y
/-- The first point's stores into scratch 2 cover it. -/
theorem scoverA_2 (h0 : cond0_0 (grid0.coords t)) (h1 : ¬cond0_1 (grid0.coords t)) (x0 : Vec F S32x512x128 .f32) (x1 : Vec F S1x512x64 .f32) (x2 : Vec F S1x1x32 .f32) (y : S512x1.Idx) :
    ∃ pc ∈ (runA c t h0 h1 x0 x1 x2).2.2.2.2.2.1, y ∈ pc.1.set :=
  View.cover_of_tiledL (runA c t h0 h1 x0 x1 x2).2.2.2.2.2.1 S512x1.size (by sl_kernel_rfl) y
/-- The first point's stores into scratch 3 cover it. -/
theorem scoverA_3 (h0 : cond0_0 (grid0.coords t)) (h1 : ¬cond0_1 (grid0.coords t)) (x0 : Vec F S32x512x128 .f32) (x1 : Vec F S1x512x64 .f32) (x2 : Vec F S1x1x32 .f32) (y : S512x1.Idx) :
    ∃ pc ∈ (runA c t h0 h1 x0 x1 x2).2.2.2.2.2.2.1, y ∈ pc.1.set :=
  View.cover_of_tiledL (runA c t h0 h1 x0 x1 x2).2.2.2.2.2.2.1 S512x1.size (by sl_kernel_rfl) y
/-- The first point's stores into scratch 4 cover it. -/
theorem scoverA_4 (h0 : cond0_0 (grid0.coords t)) (h1 : ¬cond0_1 (grid0.coords t)) (x0 : Vec F S32x512x128 .f32) (x1 : Vec F S1x512x64 .f32) (x2 : Vec F S1x1x32 .f32) (y : S512x1.Idx) :
    ∃ pc ∈ (runA c t h0 h1 x0 x1 x2).2.2.2.2.2.2.2.1, y ∈ pc.1.set :=
  View.cover_of_tiledL (runA c t h0 h1 x0 x1 x2).2.2.2.2.2.2.2.1 S512x1.size (by sl_kernel_rfl) y
/-- What the first point leaves in the carried scratch. -/
def carryA (h0 : cond0_0 (grid0.coords t)) (h1 : ¬cond0_1 (grid0.coords t)) (x0 : Vec F S32x512x128 .f32) (x1 : Vec F S1x512x64 .f32) (x2 : Vec F S1x1x32 .f32) : Carry F :=
  (View.canon (runA c t h0 h1 x0 x1 x2).2.2.2.1, View.canon (runA c t h0 h1 x0 x1 x2).2.2.2.2.1, View.canon (runA c t h0 h1 x0 x1 x2).2.2.2.2.2.1, View.canon (runA c t h0 h1 x0 x1 x2).2.2.2.2.2.2.1, View.canon (runA c t h0 h1 x0 x1 x2).2.2.2.2.2.2.2.1)
/-- The body's run at the middle point, on the point's own buffers. -/
abbrev runB (h0 : ¬cond0_0 (grid0.coords t)) (h1 : ¬cond0_1 (grid0.coords t)) (x0 : Vec F S32x512x128 .f32) (x1 : Vec F S1x512x64 .f32) (x2 : Vec F S1x1x32 .f32) (s : Carry F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) h0 h1 x0 x1 x2 s.1 s.2.1 s.2.2.1 s.2.2.2.1 s.2.2.2.2
/-- The middle point's stores into scratch 0 cover it. -/
theorem scoverB_0 (h0 : ¬cond0_0 (grid0.coords t)) (h1 : ¬cond0_1 (grid0.coords t)) (x0 : Vec F S32x512x128 .f32) (x1 : Vec F S1x512x64 .f32) (x2 : Vec F S1x1x32 .f32) (s : Carry F) (y : S512x128.Idx) :
    ∃ pc ∈ (runB c t h0 h1 x0 x1 x2 s).2.2.2.1, y ∈ pc.1.set :=
  View.cover_of_tiledL (runB c t h0 h1 x0 x1 x2 s).2.2.2.1 S64x128.size (by sl_kernel_rfl) y
/-- The middle point's stores into scratch 1 cover it. -/
theorem scoverB_1 (h0 : ¬cond0_0 (grid0.coords t)) (h1 : ¬cond0_1 (grid0.coords t)) (x0 : Vec F S32x512x128 .f32) (x1 : Vec F S1x512x64 .f32) (x2 : Vec F S1x1x32 .f32) (s : Carry F) (y : S512x1.Idx) :
    ∃ pc ∈ (runB c t h0 h1 x0 x1 x2 s).2.2.2.2.1, y ∈ pc.1.set :=
  View.cover_of_tiledL (runB c t h0 h1 x0 x1 x2 s).2.2.2.2.1 S512x1.size (by sl_kernel_rfl) y
/-- The middle point's stores into scratch 2 cover it. -/
theorem scoverB_2 (h0 : ¬cond0_0 (grid0.coords t)) (h1 : ¬cond0_1 (grid0.coords t)) (x0 : Vec F S32x512x128 .f32) (x1 : Vec F S1x512x64 .f32) (x2 : Vec F S1x1x32 .f32) (s : Carry F) (y : S512x1.Idx) :
    ∃ pc ∈ (runB c t h0 h1 x0 x1 x2 s).2.2.2.2.2.1, y ∈ pc.1.set :=
  View.cover_of_tiledL (runB c t h0 h1 x0 x1 x2 s).2.2.2.2.2.1 S512x1.size (by sl_kernel_rfl) y
/-- The middle point's stores into scratch 3 cover it. -/
theorem scoverB_3 (h0 : ¬cond0_0 (grid0.coords t)) (h1 : ¬cond0_1 (grid0.coords t)) (x0 : Vec F S32x512x128 .f32) (x1 : Vec F S1x512x64 .f32) (x2 : Vec F S1x1x32 .f32) (s : Carry F) (y : S512x1.Idx) :
    ∃ pc ∈ (runB c t h0 h1 x0 x1 x2 s).2.2.2.2.2.2.1, y ∈ pc.1.set :=
  View.cover_of_tiledL (runB c t h0 h1 x0 x1 x2 s).2.2.2.2.2.2.1 S512x1.size (by sl_kernel_rfl) y
/-- The middle point's stores into scratch 4 cover it. -/
theorem scoverB_4 (h0 : ¬cond0_0 (grid0.coords t)) (h1 : ¬cond0_1 (grid0.coords t)) (x0 : Vec F S32x512x128 .f32) (x1 : Vec F S1x512x64 .f32) (x2 : Vec F S1x1x32 .f32) (s : Carry F) (y : S512x1.Idx) :
    ∃ pc ∈ (runB c t h0 h1 x0 x1 x2 s).2.2.2.2.2.2.2.1, y ∈ pc.1.set :=
  View.cover_of_tiledL (runB c t h0 h1 x0 x1 x2 s).2.2.2.2.2.2.2.1 S512x1.size (by sl_kernel_rfl) y
/-- What the middle point leaves in the carried scratch. -/
def carryB (h0 : ¬cond0_0 (grid0.coords t)) (h1 : ¬cond0_1 (grid0.coords t)) (x0 : Vec F S32x512x128 .f32) (x1 : Vec F S1x512x64 .f32) (x2 : Vec F S1x1x32 .f32) (s : Carry F) : Carry F :=
  (View.canon (runB c t h0 h1 x0 x1 x2 s).2.2.2.1, View.canon (runB c t h0 h1 x0 x1 x2 s).2.2.2.2.1, View.canon (runB c t h0 h1 x0 x1 x2 s).2.2.2.2.2.1, View.canon (runB c t h0 h1 x0 x1 x2 s).2.2.2.2.2.2.1, View.canon (runB c t h0 h1 x0 x1 x2 s).2.2.2.2.2.2.2.1)
/-- The body's run at the last point, on the point's own buffers. -/
abbrev runC (h0 : ¬cond0_0 (grid0.coords t)) (h1 : cond0_1 (grid0.coords t)) (x0 : Vec F S32x512x128 .f32) (x1 : Vec F S1x512x64 .f32) (x2 : Vec F S1x1x32 .f32) (s : Carry F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) h0 h1 x0 x1 x2 s.1 s.2.1 s.2.2.1 s.2.2.2.1 s.2.2.2.2
/-- The last point's stores into scratch 0 cover it. -/
theorem scoverC_0 (h0 : ¬cond0_0 (grid0.coords t)) (h1 : cond0_1 (grid0.coords t)) (x0 : Vec F S32x512x128 .f32) (x1 : Vec F S1x512x64 .f32) (x2 : Vec F S1x1x32 .f32) (s : Carry F) (y : S512x128.Idx) :
    ∃ pc ∈ (runC c t h0 h1 x0 x1 x2 s).2.2.2.1, y ∈ pc.1.set :=
  View.cover_of_tiledL (runC c t h0 h1 x0 x1 x2 s).2.2.2.1 S64x128.size (by sl_kernel_rfl) y
/-- The last point's stores into scratch 1 cover it. -/
theorem scoverC_1 (h0 : ¬cond0_0 (grid0.coords t)) (h1 : cond0_1 (grid0.coords t)) (x0 : Vec F S32x512x128 .f32) (x1 : Vec F S1x512x64 .f32) (x2 : Vec F S1x1x32 .f32) (s : Carry F) (y : S512x1.Idx) :
    ∃ pc ∈ (runC c t h0 h1 x0 x1 x2 s).2.2.2.2.1, y ∈ pc.1.set :=
  View.cover_of_tiledL (runC c t h0 h1 x0 x1 x2 s).2.2.2.2.1 S512x1.size (by sl_kernel_rfl) y
/-- The last point's stores into scratch 2 cover it. -/
theorem scoverC_2 (h0 : ¬cond0_0 (grid0.coords t)) (h1 : cond0_1 (grid0.coords t)) (x0 : Vec F S32x512x128 .f32) (x1 : Vec F S1x512x64 .f32) (x2 : Vec F S1x1x32 .f32) (s : Carry F) (y : S512x1.Idx) :
    ∃ pc ∈ (runC c t h0 h1 x0 x1 x2 s).2.2.2.2.2.1, y ∈ pc.1.set :=
  View.cover_of_tiledL (runC c t h0 h1 x0 x1 x2 s).2.2.2.2.2.1 S512x1.size (by sl_kernel_rfl) y
/-- The last point's stores into scratch 3 cover it. -/
theorem scoverC_3 (h0 : ¬cond0_0 (grid0.coords t)) (h1 : cond0_1 (grid0.coords t)) (x0 : Vec F S32x512x128 .f32) (x1 : Vec F S1x512x64 .f32) (x2 : Vec F S1x1x32 .f32) (s : Carry F) (y : S512x1.Idx) :
    ∃ pc ∈ (runC c t h0 h1 x0 x1 x2 s).2.2.2.2.2.2.1, y ∈ pc.1.set :=
  View.cover_of_tiledL (runC c t h0 h1 x0 x1 x2 s).2.2.2.2.2.2.1 S512x1.size (by sl_kernel_rfl) y
/-- The last point's stores into scratch 4 cover it. -/
theorem scoverC_4 (h0 : ¬cond0_0 (grid0.coords t)) (h1 : cond0_1 (grid0.coords t)) (x0 : Vec F S32x512x128 .f32) (x1 : Vec F S1x512x64 .f32) (x2 : Vec F S1x1x32 .f32) (s : Carry F) (y : S512x1.Idx) :
    ∃ pc ∈ (runC c t h0 h1 x0 x1 x2 s).2.2.2.2.2.2.2.1, y ∈ pc.1.set :=
  View.cover_of_tiledL (runC c t h0 h1 x0 x1 x2 s).2.2.2.2.2.2.2.1 S512x1.size (by sl_kernel_rfl) y
/-- What the last point leaves in the carried scratch. -/
def carryC (h0 : ¬cond0_0 (grid0.coords t)) (h1 : cond0_1 (grid0.coords t)) (x0 : Vec F S32x512x128 .f32) (x1 : Vec F S1x512x64 .f32) (x2 : Vec F S1x1x32 .f32) (s : Carry F) : Carry F :=
  (View.canon (runC c t h0 h1 x0 x1 x2 s).2.2.2.1, View.canon (runC c t h0 h1 x0 x1 x2 s).2.2.2.2.1, View.canon (runC c t h0 h1 x0 x1 x2 s).2.2.2.2.2.1, View.canon (runC c t h0 h1 x0 x1 x2 s).2.2.2.2.2.2.1, View.canon (runC c t h0 h1 x0 x1 x2 s).2.2.2.2.2.2.2.1)
/-- The last point's stores into output 3 cover it. -/
theorem coverC_3 (h0 : ¬cond0_0 (grid0.coords t)) (h1 : cond0_1 (grid0.coords t)) (x0 : Vec F S32x512x128 .f32) (x1 : Vec F S1x512x64 .f32) (x2 : Vec F S1x1x32 .f32) (s : Carry F) (y : S512x128.Idx) :
    ∃ pc ∈ (runC c t h0 h1 x0 x1 x2 s).1, y ∈ pc.1.set :=
  View.cover_of_tiledL (runC c t h0 h1 x0 x1 x2 s).1 S512x128.size (by sl_kernel_rfl) y
/-- What the last point leaves in output 3. -/
def outC_3 (h0 : ¬cond0_0 (grid0.coords t)) (h1 : cond0_1 (grid0.coords t)) (x0 : Vec F S32x512x128 .f32) (x1 : Vec F S1x512x64 .f32) (x2 : Vec F S1x1x32 .f32) (s : Carry F) : Vec F S512x128 .f32 :=
  View.canon (runC c t h0 h1 x0 x1 x2 s).1
/-- The last point's stores into output 4 cover it. -/
theorem coverC_4 (h0 : ¬cond0_0 (grid0.coords t)) (h1 : cond0_1 (grid0.coords t)) (x0 : Vec F S32x512x128 .f32) (x1 : Vec F S1x512x64 .f32) (x2 : Vec F S1x1x32 .f32) (s : Carry F) (y : S512x2.Idx) :
    ∃ pc ∈ (runC c t h0 h1 x0 x1 x2 s).2.1, y ∈ pc.1.set :=
  View.cover_of_tiledL (runC c t h0 h1 x0 x1 x2 s).2.1 S512x2.size (by sl_kernel_rfl) y
/-- What the last point leaves in output 4. -/
def outC_4 (h0 : ¬cond0_0 (grid0.coords t)) (h1 : cond0_1 (grid0.coords t)) (x0 : Vec F S32x512x128 .f32) (x1 : Vec F S1x512x64 .f32) (x2 : Vec F S1x1x32 .f32) (s : Carry F) : Vec F S512x2 .f32 :=
  View.canon (runC c t h0 h1 x0 x1 x2 s).2.1
/-- The last point's stores into output 5 cover it. -/
theorem coverC_5 (h0 : ¬cond0_0 (grid0.coords t)) (h1 : cond0_1 (grid0.coords t)) (x0 : Vec F S32x512x128 .f32) (x1 : Vec F S1x512x64 .f32) (x2 : Vec F S1x1x32 .f32) (s : Carry F) (y : S512x2.Idx) :
    ∃ pc ∈ (runC c t h0 h1 x0 x1 x2 s).2.2.1, y ∈ pc.1.set :=
  View.cover_of_tiledL (runC c t h0 h1 x0 x1 x2 s).2.2.1 S512x2.size (by sl_kernel_rfl) y
/-- What the last point leaves in output 5. -/
def outC_5 (h0 : ¬cond0_0 (grid0.coords t)) (h1 : cond0_1 (grid0.coords t)) (x0 : Vec F S32x512x128 .f32) (x1 : Vec F S1x512x64 .f32) (x2 : Vec F S1x1x32 .f32) (s : Carry F) : Vec F S512x2 .f32 :=
  View.canon (runC c t h0 h1 x0 x1 x2 s).2.2.1

end Cert.KernelIdeal.Hand

end
-- ==== Proof.Ideal.Region0.lean ====
module

public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region: what it carries, and the body obligation -/

attribute [local irreducible] kernelRun0_A kernelRun0_B kernelRun0_C

variable (V : Bufs (F := F)) (c : Dev nD)

/-- The first point is not the last. -/
theorem ncond0_1_zero (t : Fin cfg0.N) (h : t.val = 0) : ¬cond0_1 (grid0.coords t) := fun h' => by
  have := (hcond0_1 t).mp h'; omega
/-- A point after the first does not take the first branch. -/
theorem ncond0_0_pos (t : Fin cfg0.N) (h : t.val ≠ 0) : ¬cond0_0 (grid0.coords t) := fun h' => h ((hcond0_0 t).mp h')
/-- A point before the last does not take the last branch. -/
theorem ncond0_1_mid (t : Fin cfg0.N) (h : t.val ≠ 31) : ¬cond0_1 (grid0.coords t) := fun h' => h ((hcond0_1 t).mp h')

/-- The carried scratch after the point `t` that is not the first, from what it held before. -/
def carryStep (t : Fin cfg0.N) (h : t.val ≠ 0) (s : Carry F) : Carry F :=
  if h1 : t.val = 31 then carryC c t (ncond0_0_pos t h) ((hcond0_1 t).mpr h1) (iblk0 V c 0 t) (iblk0 V c 1 t) (iblk0 V c 2 t) s
  else carryB c t (ncond0_0_pos t h) (ncond0_1_mid t h1) (iblk0 V c 0 t) (iblk0 V c 1 t) (iblk0 V c 2 t) s

/-- The carried scratch after point `n`. -/
def carry : (n : ℕ) → n < cfg0.N → Carry F
  | 0, h => carryA c ⟨0, h⟩ ((hcond0_0 ⟨0, h⟩).mpr rfl) (ncond0_1_zero ⟨0, h⟩ rfl) (iblk0 V c 0 ⟨0, h⟩) (iblk0 V c 1 ⟨0, h⟩) (iblk0 V c 2 ⟨0, h⟩)
  | n + 1, h => carryStep V c ⟨n + 1, h⟩ (Nat.succ_ne_zero n) (carry n (Nat.lt_of_succ_lt h))

/-- What the scratch buffers hold after the first point. -/
theorem carry_zero (t : Fin cfg0.N) (h : t.val = 0) :
    carry V c t.val t.isLt = carryA c t ((hcond0_0 t).mpr h) (ncond0_1_zero t h) (iblk0 V c 0 t) (iblk0 V c 1 t) (iblk0 V c 2 t) := by
  obtain ⟨n, hn⟩ := t; cases n with
  | zero => rfl
  | succ n => exact absurd h (Nat.succ_ne_zero n)

/-- What the scratch buffers hold after a later point, from the point before. -/
theorem carry_pos (t : Fin cfg0.N) (h : t.val ≠ 0) :
    carry V c t.val t.isLt = carryStep V c t h (carry V c (t.val - 1) (by omega)) := by
  obtain ⟨n, hn⟩ := t; cases n with
  | zero => exact absurd rfl h
  | succ n => rfl

/-- What the outputs' staging buffers hold after point `t`; only the last point's are ever read. -/
def outs0_3 (t : Fin cfg0.N) : Vec F S512x128 .f32 :=
  if h1 : t.val = 31 then outC_3 c t (ncond0_0_pos t (by omega)) ((hcond0_1 t).mpr h1) (iblk0 V c 0 t) (iblk0 V c 1 t) (iblk0 V c 2 t) (carry V c (t.val - 1) (by omega)) else View.canon []
/-- What window 4 of the first call holds after the last point. -/
def outs0_4 (t : Fin cfg0.N) : Vec F S512x2 .f32 :=
  if h1 : t.val = 31 then outC_4 c t (ncond0_0_pos t (by omega)) ((hcond0_1 t).mpr h1) (iblk0 V c 0 t) (iblk0 V c 1 t) (iblk0 V c 2 t) (carry V c (t.val - 1) (by omega)) else View.canon []
/-- What window 5 of the first call holds after the last point. -/
def outs0_5 (t : Fin cfg0.N) : Vec F S512x2 .f32 :=
  if h1 : t.val = 31 then outC_5 c t (ncond0_0_pos t (by omega)) ((hcond0_1 t).mpr h1) (iblk0 V c 0 t) (iblk0 V c 1 t) (iblk0 V c 2 t) (carry V c (t.val - 1) (by omega)) else View.canon []

/-- The carried scratch at given contents, the other scratch at some contents, what the region does not touch. -/
def PhiC (s : Carry F) : sProp 𝕄 :=
  iprop(iprop(owns (c : Thread nD τ) scM0_0 fullShare s.1 ∗ owns (c : Thread nD τ) scM0_1 fullShare s.2.1 ∗ owns (c : Thread nD τ) scM0_2 fullShare s.2.2.1 ∗ owns (c : Thread nD τ) scM0_3 fullShare s.2.2.2.1 ∗ owns (c : Thread nD τ) scM0_4 fullShare s.2.2.2.2 ∗ (∃ d, owns (c : Thread nD τ) scM0_5 fullShare d) ∗ others c) ∗ (∃ r, prngReg c r))

/-- The invariant before position `n`. -/
def Phi0 : (n : ℕ) → n ≤ cfg0.N → sProp 𝕄
  | 0, _ => Pipeline.ΦA spec0 c
  | n + 1, hn => PhiC c (carry V c n hn)

/-- The assertion before the first point. -/
theorem Phi0_zero (n : ℕ) (h : n ≤ cfg0.N) (hz : n = 0) : Phi0 V c n h = Pipeline.ΦA spec0 c := by
  subst hz; rfl
/-- The assertion before a later point: the scratch buffers hold the carry. -/
theorem Phi0_pos (n : ℕ) (h : n ≤ cfg0.N) (hz : n ≠ 0) : Phi0 V c n h = PhiC c (carry V c (n - 1) (by omega)) := by
  cases n with
  | zero => exact absurd rfl hz
  | succ n => rfl

/-- The first region's proof data: arrays as found, inputs left in place, outputs and scratch as computed above. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outs0_3 V c t
    | ⟨4, _⟩ => outs0_4 V c t
    | ⟨5, _⟩ => outs0_5 V c t
  Φ t := Phi0 V c t.val (Nat.le_of_lt_succ t.isLt)
  q _ := fullShare
  owed _ := 0

/-- The array of a window of call 0, at its start. -/
theorem A0_eq (w : Fin cfg0.W) : (dat0 V c).A w = V c (Pipeline.arrRef spec0 w) := by
  dsimp only [dat0]
/-- The assertion before point `t`, by the number of points done. -/
theorem Phi0_castSucc (t : Fin cfg0.N) : (dat0 V c).Φ t.castSucc = Phi0 V c t.val (Nat.le_of_lt t.isLt) := by
  dsimp only [dat0]; exact Pipeline.Dat.Φ_castSucc (Phi0 V c) t
/-- What window 0 of call 0 holds after the body. -/
theorem after0_0 (t : Fin cfg0.N) : (dat0 V c).after 0 t = iblk0 V c 0 t := by dsimp only [dat0]
/-- What window 1 of call 0 holds after the body. -/
theorem after0_1 (t : Fin cfg0.N) : (dat0 V c).after 1 t = iblk0 V c 1 t := by dsimp only [dat0]
/-- What window 2 of call 0 holds after the body. -/
theorem after0_2 (t : Fin cfg0.N) : (dat0 V c).after 2 t = iblk0 V c 2 t := by dsimp only [dat0]
/-- What window 3 of call 0 holds after the body. -/
theorem after0_3 (t : Fin cfg0.N) : (dat0 V c).after 3 t = outs0_3 V c t := by dsimp only [dat0]
/-- What window 4 of call 0 holds after the body. -/
theorem after0_4 (t : Fin cfg0.N) : (dat0 V c).after 4 t = outs0_4 V c t := by dsimp only [dat0]
/-- What window 5 of call 0 holds after the body. -/
theorem after0_5 (t : Fin cfg0.N) : (dat0 V c).after 5 t = outs0_5 V c t := by dsimp only [dat0]
/-- What input window 0 of call 0 holds before the body: its block. -/
theorem before0_0 (t : Fin cfg0.N) (d) : (dat0 V c).before 0 t d = iblk0 V c 0 t :=
  before0_0_of V (dat0 V c) (A0_eq V c 0) (after0_0 V c) t d
/-- What input window 1 of call 0 holds before the body: its block. -/
theorem before0_1 (t : Fin cfg0.N) (d) : (dat0 V c).before 1 t d = iblk0 V c 1 t :=
  before0_1_of V (dat0 V c) (A0_eq V c 1) (after0_1 V c) t d
/-- What input window 2 of call 0 holds before the body: its block. -/
theorem before0_2 (t : Fin cfg0.N) (d) : (dat0 V c).before 2 t d = iblk0 V c 2 t :=
  before0_2_of V (dat0 V c) (A0_eq V c 2) (after0_2 V c) t d

/-- What the body is called with at point `t`, window by window, -/
def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- and what it returns. -/
def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

/-- The body leaves window 0 holding what is stated of it. -/
theorem leaves0_0 (t : Fin cfg0.N) : (dat0 V c).leavesExact 0 t = owns (c : Thread nD τ) (ms0_0 t) fullShare (iblk0 V c 0 t) := by
  unfold Dat.leavesExact; rw [show cfg0.idle 0 (grid0.coords t) = false from rfl, after0_0]
/-- The body leaves window 1 holding what is stated of it. -/
theorem leaves0_1 (t : Fin cfg0.N) : (dat0 V c).leavesExact 1 t = owns (c : Thread nD τ) (ms0_1 t) fullShare (iblk0 V c 1 t) := by
  unfold Dat.leavesExact; rw [show cfg0.idle 1 (grid0.coords t) = false from rfl, after0_1]
/-- The body leaves window 2 holding what is stated of it. -/
theorem leaves0_2 (t : Fin cfg0.N) : (dat0 V c).leavesExact 2 t = owns (c : Thread nD τ) (ms0_2 t) fullShare (iblk0 V c 2 t) := by
  unfold Dat.leavesExact; rw [show cfg0.idle 2 (grid0.coords t) = false from rfl, after0_2]
/-- The body leaves window 3 holding what is stated of it. -/
theorem leaves0_3 (t : Fin cfg0.N) (h1 : cond0_1 (grid0.coords t)) : (dat0 V c).leavesExact 3 t = owns (c : Thread nD τ) (ms0_3 t) fullShare (outs0_3 V c t) := by
  unfold Dat.leavesExact; rw [live0_3 t h1, after0_3]
/-- The body leaves window 4 holding what is stated of it. -/
theorem leaves0_4 (t : Fin cfg0.N) (h1 : cond0_1 (grid0.coords t)) : (dat0 V c).leavesExact 4 t = owns (c : Thread nD τ) (ms0_4 t) fullShare (outs0_4 V c t) := by
  unfold Dat.leavesExact; rw [live0_4 t h1, after0_4]
/-- The body leaves window 5 holding what is stated of it. -/
theorem leaves0_5 (t : Fin cfg0.N) (h1 : cond0_1 (grid0.coords t)) : (dat0 V c).leavesExact 5 t = owns (c : Thread nD τ) (ms0_5 t) fullShare (outs0_5 V c t) := by
  unfold Dat.leavesExact; rw [live0_5 t h1, after0_5]

set_option maxHeartbeats 4000000 in
/-- The body's triple at the first point. -/
theorem sound0_A (t : Fin cfg0.N) (h : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiC c (carry V c t.val t.isLt) from rfl, leaves0_0, leaves0_1, leaves0_2]
  rw [Dat.leavesExact_idle (dat0 V c) 3 t (idle0_3 t (ncond0_1_zero t h)) (noFlush0_3 t (ncond0_1_zero t h))]
  rw [Dat.leavesExact_idle (dat0 V c) 4 t (idle0_4 t (ncond0_1_zero t h)) (noFlush0_4 t (ncond0_1_zero t h))]
  rw [Dat.leavesExact_idle (dat0 V c) 5 t (idle0_5 t (ncond0_1_zero t h)) (noFlush0_5 t (ncond0_1_zero t h))]
  rw [Phi0_castSucc V c t, Phi0_zero V c _ _ h, PhiA0_eq, carry_zero V c t h]
  unfold PhiC carryA; dsimp only
  iintro ⟨⟨⟨HS0, HS1, HS2, HS3, HS4, HS5, Hr⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ _ _ _ _ ((hcond0_0 t).mpr h) (ncond0_1_zero t h) (iblk0 V c 0 t) (iblk0 V c 1 t) (iblk0 V c 2 t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%fT5, HS5⟩⟩
  isplitl [HS0 HS1 HS2 HS3 HS4 HS5 Hr Hg]
  · isplitl [HS0 HS1 HS2 HS3 HS4 HS5 Hr]
    · isplitl [HS0]
      · unfold owns; iexists _; isplitr
        swap; · iexact HS0
        ipureintro; exact View.read_writes_eq_canon _ _ _ (scoverA_0 c t ((hcond0_0 t).mpr h) (ncond0_1_zero t h) _ _ _)
      isplitl [HS1]
      · unfold owns; iexists _; isplitr
        swap; · iexact HS1
        ipureintro; exact View.read_writes_eq_canon _ _ _ (scoverA_1 c t ((hcond0_0 t).mpr h) (ncond0_1_zero t h) _ _ _)
      isplitl [HS2]
      · unfold owns; iexists _; isplitr
        swap; · iexact HS2
        ipureintro; exact View.read_writes_eq_canon _ _ _ (scoverA_2 c t ((hcond0_0 t).mpr h) (ncond0_1_zero t h) _ _ _)
      isplitl [HS3]
      · unfold owns; iexists _; isplitr
        swap; · iexact HS3
        ipureintro; exact View.read_writes_eq_canon _ _ _ (scoverA_3 c t ((hcond0_0 t).mpr h) (ncond0_1_zero t h) _ _ _)
      isplitl [HS4]
      · unfold owns; iexists _; isplitr
        swap; · iexact HS4
        ipureintro; exact View.read_writes_eq_canon _ _ _ (scoverA_4 c t ((hcond0_0 t).mpr h) (ncond0_1_zero t h) _ _ _)
      isplitl [HS5]
      · iexists _; unfold owns; iexists _; isplitr
        swap; · iexact HS5
        ipureintro; rfl
      iexact Hr
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 4000000 in
/-- The body's triple at the middle point. -/
theorem sound0_B (t : Fin cfg0.N) (h : t.val ≠ 0) (h1 : t.val ≠ 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiC c (carry V c t.val t.isLt) from rfl, leaves0_0, leaves0_1, leaves0_2]
  rw [Dat.leavesExact_idle (dat0 V c) 3 t (idle0_3 t (ncond0_1_mid t h1)) (noFlush0_3 t (ncond0_1_mid t h1))]
  rw [Dat.leavesExact_idle (dat0 V c) 4 t (idle0_4 t (ncond0_1_mid t h1)) (noFlush0_4 t (ncond0_1_mid t h1))]
  rw [Dat.leavesExact_idle (dat0 V c) 5 t (idle0_5 t (ncond0_1_mid t h1)) (noFlush0_5 t (ncond0_1_mid t h1))]
  rw [Phi0_castSucc V c t, Phi0_pos V c _ _ h, carry_pos V c t h]
  unfold carryStep; rw [dif_neg h1]
  generalize carry V c (t.val - 1) (by omega) = s
  unfold PhiC carryB; dsimp only
  iintro ⟨⟨⟨HS0, HS1, HS2, HS3, HS4, HS5, Hr⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ _ _ _ _ _ _ _ _ (ncond0_0_pos t h) (ncond0_1_mid t h1) (iblk0 V c 0 t) (iblk0 V c 1 t) (iblk0 V c 2 t) s.1 s.2.1 s.2.2.1 s.2.2.2.1 s.2.2.2.2).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%fT5, HS5⟩⟩
  isplitl [HS0 HS1 HS2 HS3 HS4 HS5 Hr Hg]
  · isplitl [HS0 HS1 HS2 HS3 HS4 HS5 Hr]
    · isplitl [HS0]
      · unfold owns; iexists _; isplitr
        swap; · iexact HS0
        ipureintro; exact View.read_writes_eq_canon _ _ _ (scoverB_0 c t (ncond0_0_pos t h) (ncond0_1_mid t h1) _ _ _ _)
      isplitl [HS1]
      · unfold owns; iexists _; isplitr
        swap; · iexact HS1
        ipureintro; exact View.read_writes_eq_canon _ _ _ (scoverB_1 c t (ncond0_0_pos t h) (ncond0_1_mid t h1) _ _ _ _)
      isplitl [HS2]
      · unfold owns; iexists _; isplitr
        swap; · iexact HS2
        ipureintro; exact View.read_writes_eq_canon _ _ _ (scoverB_2 c t (ncond0_0_pos t h) (ncond0_1_mid t h1) _ _ _ _)
      isplitl [HS3]
      · unfold owns; iexists _; isplitr
        swap; · iexact HS3
        ipureintro; exact View.read_writes_eq_canon _ _ _ (scoverB_3 c t (ncond0_0_pos t h) (ncond0_1_mid t h1) _ _ _ _)
      isplitl [HS4]
      · unfold owns; iexists _; isplitr
        swap; · iexact HS4
        ipureintro; exact View.read_writes_eq_canon _ _ _ (scoverB_4 c t (ncond0_0_pos t h) (ncond0_1_mid t h1) _ _ _ _)
      isplitl [HS5]
      · iexists _; unfold owns; iexists _; isplitr
        swap; · iexact HS5
        ipureintro; rfl
      iexact Hr
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 4000000 in
/-- The body's triple at the last point. -/
theorem sound0_C (t : Fin cfg0.N) (h : t.val ≠ 0) (h1 : t.val = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiC c (carry V c t.val t.isLt) from rfl, leaves0_0, leaves0_1, leaves0_2]
  rw [leaves0_3 V c t ((hcond0_1 t).mpr h1)]
  rw [leaves0_4 V c t ((hcond0_1 t).mpr h1)]
  rw [leaves0_5 V c t ((hcond0_1 t).mpr h1)]
  unfold outs0_3 outs0_4 outs0_5; rw [dif_pos h1, dif_pos h1, dif_pos h1]
  rw [Phi0_castSucc V c t, Phi0_pos V c _ _ h, carry_pos V c t h]
  unfold carryStep; rw [dif_pos h1]
  generalize carry V c (t.val - 1) (by omega) = s
  unfold PhiC carryC outC_3 outC_4 outC_5; dsimp only
  iintro ⟨⟨⟨HS0, HS1, HS2, HS3, HS4, HS5, Hr⟩, Hg⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ _ _ _ _ _ _ _ _ (ncond0_0_pos t h) ((hcond0_1 t).mpr h1) (iblk0 V c 0 t) (iblk0 V c 1 t) (iblk0 V c 2 t) s.1 s.2.1 s.2.2.1 s.2.2.2.1 s.2.2.2.2).2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e4, H4⟩, ⟨%e5, H5⟩, ⟨%es0, HS0⟩, ⟨%es1, HS1⟩, ⟨%es2, HS2⟩, ⟨%es3, HS3⟩, ⟨%es4, HS4⟩, ⟨%fT5, HS5⟩⟩
  isplitl [HS0 HS1 HS2 HS3 HS4 HS5 Hr Hg]
  · isplitl [HS0 HS1 HS2 HS3 HS4 HS5 Hr]
    · isplitl [HS0]
      · unfold owns; iexists _; isplitr
        swap; · iexact HS0
        ipureintro; exact View.read_writes_eq_canon _ _ _ (scoverC_0 c t (ncond0_0_pos t h) ((hcond0_1 t).mpr h1) _ _ _ _)
      isplitl [HS1]
      · unfold owns; iexists _; isplitr
        swap; · iexact HS1
        ipureintro; exact View.read_writes_eq_canon _ _ _ (scoverC_1 c t (ncond0_0_pos t h) ((hcond0_1 t).mpr h1) _ _ _ _)
      isplitl [HS2]
      · unfold owns; iexists _; isplitr
        swap; · iexact HS2
        ipureintro; exact View.read_writes_eq_canon _ _ _ (scoverC_2 c t (ncond0_0_pos t h) ((hcond0_1 t).mpr h1) _ _ _ _)
      isplitl [HS3]
      · unfold owns; iexists _; isplitr
        swap; · iexact HS3
        ipureintro; exact View.read_writes_eq_canon _ _ _ (scoverC_3 c t (ncond0_0_pos t h) ((hcond0_1 t).mpr h1) _ _ _ _)
      isplitl [HS4]
      · unfold owns; iexists _; isplitr
        swap; · iexact HS4
        ipureintro; exact View.read_writes_eq_canon _ _ _ (scoverC_4 c t (ncond0_0_pos t h) ((hcond0_1 t).mpr h1) _ _ _ _)
      isplitl [HS5]
      · iexists _; unfold owns; iexists _; isplitr
        swap; · iexact HS5
        ipureintro; rfl
      iexact Hr
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (coverC_3 c t (ncond0_0_pos t h) ((hcond0_1 t).mpr h1) _ _ _ _)
  isplitl [H4]
  · unfold owns; iexists _; isplitr
    swap; · iexact H4
    ipureintro; exact View.read_writes_eq_canon _ _ _ (coverC_4 c t (ncond0_0_pos t h) ((hcond0_1 t).mpr h1) _ _ _ _)
  unfold owns; iexists _; isplitr
  swap; · iexact H5
  ipureintro; exact View.read_writes_eq_canon _ _ _ (coverC_5 c t (ncond0_0_pos t h) ((hcond0_1 t).mpr h1) _ _ _ _)

/-- The body of call 0 does at every point what is stated of it. -/
theorem sound0 (t : Fin cfg0.N) :
    bodyPre0 V c t ⊢ wp frame (wpE (defs₀ (F := F)) Variants.none c none) Set.univ (bodyAt0 t) (fun _ => bodyPost0 V c t) := by
  by_cases h : t.val = 0
  · exact sound0_A V c t h
  · by_cases h1 : t.val = 31
    · exact sound0_C V c t h h1
    · exact sound0_B V c t h h1

/-- The body of call 0, unfolded, at point `t`. -/
theorem defs₀_row0 (t : Fin cfg0.N) :
    defs₀ (F := F) .tc cfg0.body (cfg0.bodyArgs t (cfg0.slots t)) = bodyAt0 t := by
  unfold defs₀; rw [Defs.onTc_tc]

/-- The first region's body obligation, at every point. -/
theorem obligation0 : BodyObligation (dat0 V c) (defs₀ (F := F)) Variants.none () Set.univ := fun t => by
  rw [bigSep_W0, bigSep_W0, defs₀_row0]
  exact triple_restated (sound0 V c t) rfl .rfl fun _ => .rfl

/-- What the region is handed is the invariant before the first point, -/
theorem hin0 : iprop(Pipeline.scopedRest (Ix := Unit) (Name := ℕ) (U := UR sig nD τ) (Lvl := ℕ) (Val := Elt F) spec0 c ∗ ∃ r, prngReg c r) ⊢ (dat0 V c).Φ 0 := by
  rw [show (dat0 V c).Φ 0 = Phi0 V c 0 (Nat.zero_le _) from rfl, Phi0_zero V c 0 _ rfl]
  exact Idealize.SL.BI.Entails.refl _

/-- and after the last point the invariant gives it back. -/
theorem hout0 : (dat0 V c).Φ (Fin.last cfg0.N) ⊢ iprop(Pipeline.scopedRest (Ix := Unit) (Name := ℕ) (U := UR sig nD τ) (Lvl := ℕ) (Val := Elt F) spec0 c ∗ ∃ r, prngReg c r) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega)]
  change PhiC c _ ⊢ Pipeline.ΦA spec0 c
  rw [PhiA0_eq]
  unfold PhiC
  iintro ⟨⟨HS0, HS1, HS2, HS3, HS4, HS5, Hr⟩, Hg⟩
  isplitl [HS0 HS1 HS2 HS3 HS4 HS5 Hr]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexact HS5
    iexact Hr
  iexact Hg

end Cert.KernelIdeal.Hand

end
-- ==== Proof.Ideal.Region1.lean ====
module

public import proofs.«01_k».proof.Proof.Ideal.Points

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region: one point, whole blocks in, two whole blocks out -/

/-- The block of window `w`, read off its array. -/
def iblk1 (V : Bufs (F := F)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block. -/
theorem before1_0_of (V : Bufs (F := F)) {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the window's block. -/
theorem before1_1_of (V : Bufs (F := F)) {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the window's block. -/
theorem before1_2_of (V : Bufs (F := F)) {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds the window's block. -/
theorem before1_3_of (V : Bufs (F := F)) {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds the window's block. -/
theorem before1_4_of (V : Bufs (F := F)) {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds the window's block. -/
theorem before1_5_of (V : Bufs (F := F)) {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds the window's block. -/
theorem before1_6_of (V : Bufs (F := F)) {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds the window's block. -/
theorem before1_7_of (V : Bufs (F := F)) {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes: a whole column, either column of the branch table, a whole table. -/
abbrev colR : Rect S1024x1 := Rect.unit (s := S1024x1) ![0, 0] S1024x1.size inb_S1024x1_S1024x1_0_0
/-- Column 0 of a two-column array. -/
abbrev twoR0 : Rect S1024x2 := Rect.unit (s := S1024x2) ![0, 0] S1024x1.size inb_S1024x2_S1024x1_0_0
/-- Column 1 of a two-column array. -/
abbrev twoR1 : Rect S1024x2 := Rect.unit (s := S1024x2) ![0, 1] S1024x1.size inb_S1024x2_S1024x1_0_1
/-- The whole of a matrix window. -/
abbrev matR : Rect S1024x64 := Rect.unit (s := S1024x64) ![0, 0] S1024x64.size inb_S1024x64_S1024x64_0_0

/-- The new instruction pointer the body stores, from the input blocks. -/
def newIp (x0 : Vec F S1024x1 .f32) (x1 : Vec F S1024x1 .f32) (x2 : Vec F S1024x2 .f32) (x3 : Vec F S1024x64 .f32) (x4 : Vec F S1024x1 .i32) (x5 : Vec F S1024x1 .i32) (x6 : Vec F S1024x64 .f32) (x7 : Vec F S1024x1 .f32) : Vec F S1024x1 .f32 :=
  k1_pay3 (View.ld x0 colR) (View.ld x1 colR) (View.ld x2 twoR0) (View.ld x2 twoR1) (View.ld x4 colR) (View.ld x5 colR) (View.ld x3 matR) (View.ld x7 colR)

/-- The new hidden states the body stores, from the input blocks. -/
def newHid (x0 : Vec F S1024x1 .f32) (x1 : Vec F S1024x1 .f32) (x2 : Vec F S1024x2 .f32) (x3 : Vec F S1024x64 .f32) (x4 : Vec F S1024x1 .i32) (x5 : Vec F S1024x1 .i32) (x6 : Vec F S1024x64 .f32) (x7 : Vec F S1024x1 .f32) : Vec F S1024x64 .f32 :=
  k1_pay1 (k1_pay2 (View.ld x0 colR) (View.ld x1 colR) (View.ld x2 twoR0) (View.ld x2 twoR1) (View.ld x4 colR) (View.ld x5 colR) (View.ld x3 matR)) (newIp x0 x1 x2 x3 x4 x5 x6 x7) (View.ld x6 matR)

/-- One store through the whole rectangle covers the buffer. -/
theorem cover1_8 (p : Vec F S1024x1 .f32) (y : S1024x1.Idx) : ∃ pc ∈ ([⟨colR, p⟩] : List (View.Piece (Elt F) S1024x1 .f32)), y ∈ pc.1.set :=
  View.cover_of_tiled [⟨colR, p⟩] S1024x1.size (by rfl) y
/-- The one store covers the matrix window. -/
theorem cover1_9 (p : Vec F S1024x64 .f32) (y : S1024x64.Idx) : ∃ pc ∈ ([⟨matR, p⟩] : List (View.Piece (Elt F) S1024x64 .f32)), y ∈ pc.1.set :=
  View.cover_of_tiled [⟨matR, p⟩] S1024x64.size (by rfl) y

/-- What the body leaves in the two outputs' staging buffers. -/
def out1_8 (x0 : Vec F S1024x1 .f32) (x1 : Vec F S1024x1 .f32) (x2 : Vec F S1024x2 .f32) (x3 : Vec F S1024x64 .f32) (x4 : Vec F S1024x1 .i32) (x5 : Vec F S1024x1 .i32) (x6 : Vec F S1024x64 .f32) (x7 : Vec F S1024x1 .f32) : Vec F S1024x1 .f32 := View.canon [⟨colR, newIp x0 x1 x2 x3 x4 x5 x6 x7⟩]
/-- What the second call writes to its second result. -/
def out1_9 (x0 : Vec F S1024x1 .f32) (x1 : Vec F S1024x1 .f32) (x2 : Vec F S1024x2 .f32) (x3 : Vec F S1024x64 .f32) (x4 : Vec F S1024x1 .i32) (x5 : Vec F S1024x1 .i32) (x6 : Vec F S1024x64 .f32) (x7 : Vec F S1024x1 .f32) : Vec F S1024x64 .f32 := View.canon [⟨matR, newHid x0 x1 x2 x3 x4 x5 x6 x7⟩]

variable (V : Bufs (F := F)) (c : Dev nD)

/-- The second region's proof data: arrays as found, inputs left in place, outputs as computed. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The array of a window of call 1, at its start. -/
theorem A1_eq (w : Fin cfg1.W) : (dat1 V c).A w = V c (Pipeline.arrRef spec1 w) := by
  dsimp only [dat1]
/-- What window 0 of call 1 holds after the body. -/
theorem after1_0 (t : Fin cfg1.N) : (dat1 V c).after 0 t = iblk1 V c 0 t := by dsimp only [dat1]
/-- What window 1 of call 1 holds after the body. -/
theorem after1_1 (t : Fin cfg1.N) : (dat1 V c).after 1 t = iblk1 V c 1 t := by dsimp only [dat1]
/-- What window 2 of call 1 holds after the body. -/
theorem after1_2 (t : Fin cfg1.N) : (dat1 V c).after 2 t = iblk1 V c 2 t := by dsimp only [dat1]
/-- What window 3 of call 1 holds after the body. -/
theorem after1_3 (t : Fin cfg1.N) : (dat1 V c).after 3 t = iblk1 V c 3 t := by dsimp only [dat1]
/-- What window 4 of call 1 holds after the body. -/
theorem after1_4 (t : Fin cfg1.N) : (dat1 V c).after 4 t = iblk1 V c 4 t := by dsimp only [dat1]
/-- What window 5 of call 1 holds after the body. -/
theorem after1_5 (t : Fin cfg1.N) : (dat1 V c).after 5 t = iblk1 V c 5 t := by dsimp only [dat1]
/-- What window 6 of call 1 holds after the body. -/
theorem after1_6 (t : Fin cfg1.N) : (dat1 V c).after 6 t = iblk1 V c 6 t := by dsimp only [dat1]
/-- What window 7 of call 1 holds after the body. -/
theorem after1_7 (t : Fin cfg1.N) : (dat1 V c).after 7 t = iblk1 V c 7 t := by dsimp only [dat1]
/-- What window 8 of call 1 holds after the body. -/
theorem after1_8 (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
/-- What window 9 of call 1 holds after the body. -/
theorem after1_9 (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]
/-- What input window 0 of call 1 holds before the body: its block. -/
theorem before1_0 (t : Fin cfg1.N) (d) : (dat1 V c).before 0 t d = iblk1 V c 0 t :=
  before1_0_of V (dat1 V c) (A1_eq V c 0) (after1_0 V c) t d
/-- What input window 1 of call 1 holds before the body: its block. -/
theorem before1_1 (t : Fin cfg1.N) (d) : (dat1 V c).before 1 t d = iblk1 V c 1 t :=
  before1_1_of V (dat1 V c) (A1_eq V c 1) (after1_1 V c) t d
/-- What input window 2 of call 1 holds before the body: its block. -/
theorem before1_2 (t : Fin cfg1.N) (d) : (dat1 V c).before 2 t d = iblk1 V c 2 t :=
  before1_2_of V (dat1 V c) (A1_eq V c 2) (after1_2 V c) t d
/-- What input window 3 of call 1 holds before the body: its block. -/
theorem before1_3 (t : Fin cfg1.N) (d) : (dat1 V c).before 3 t d = iblk1 V c 3 t :=
  before1_3_of V (dat1 V c) (A1_eq V c 3) (after1_3 V c) t d
/-- What input window 4 of call 1 holds before the body: its block. -/
theorem before1_4 (t : Fin cfg1.N) (d) : (dat1 V c).before 4 t d = iblk1 V c 4 t :=
  before1_4_of V (dat1 V c) (A1_eq V c 4) (after1_4 V c) t d
/-- What input window 5 of call 1 holds before the body: its block. -/
theorem before1_5 (t : Fin cfg1.N) (d) : (dat1 V c).before 5 t d = iblk1 V c 5 t :=
  before1_5_of V (dat1 V c) (A1_eq V c 5) (after1_5 V c) t d
/-- What input window 6 of call 1 holds before the body: its block. -/
theorem before1_6 (t : Fin cfg1.N) (d) : (dat1 V c).before 6 t d = iblk1 V c 6 t :=
  before1_6_of V (dat1 V c) (A1_eq V c 6) (after1_6 V c) t d
/-- What input window 7 of call 1 holds before the body: its block. -/
theorem before1_7 (t : Fin cfg1.N) (d) : (dat1 V c).before 7 t d = iblk1 V c 7 t :=
  before1_7_of V (dat1 V c) (A1_eq V c 7) (after1_7 V c) t d

/-- What the body is called with, window by window, -/
def bodyPre1 (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))
/-- and what it returns. -/
def bodyPost1 (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body's triple: it runs, the inputs stay and the outputs hold what was computed. -/
theorem sound1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  simp only [cc1__epilogue_body_eq_skeleton]; unfold cc1__epilogue_body_skel
  simp only [k1_part1_eq_skeleton]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩, ⟨%d9, %f9, -, H9⟩⟩
  subst hf0 hf1 hf2 hf3 hf4 hf5 hf6 hf7
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-- The body of call 1, unfolded, at point `t`. -/
theorem defs₀_row1 (t : Fin cfg1.N) :
    defs₀ (F := F) .tc cfg1.body (cfg1.bodyArgs t (cfg1.slots t)) = bodyAt1 t := by
  unfold defs₀; rw [Defs.onTc_tc]

/-- The second region's body obligation. -/
theorem obligation1 : BodyObligation (dat1 V c) (defs₀ (F := F)) Variants.none () Set.univ := fun t => by
  rw [bigSep_W1, bigSep_W1, defs₀_row1]
  exact triple_restated (sound1 V c t) rfl .rfl fun _ => .rfl

end Cert.KernelIdeal.Hand

end
-- ==== Proof.Ideal.Main.lean ====
module

public import proofs.«01_k».proof.Proof.Ideal.Region0
public import proofs.«01_k».proof.Proof.Ideal.Region1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole run: both regions between the host stretches -/

variable (m : (ℓ : Loc nD τ sig) → Buf (Elt F) ℓ) (ρ : Dev nD → PrngReg)

/-- The buffers as the first region finds them. -/
def bufs1 : Bufs (F := F) := fun c b => V1 m c b
/-- What the first region leaves in each buffer. -/
def left0 : Outs (F := F) := fun _ r c => Pipeline.afterRegion (dat0 (bufs1 m) c) (V1 m c) (Proc.devRef .tc r)
/-- The buffers as the second region finds them. -/
def bufs3 : Bufs (F := F) := fun c b => V3 m (left0 m) c b
/-- What the two regions leave in each buffer. -/
def outs : Outs (F := F)
  | 2, r, c => left0 m 2 r c
  | _, r, c => Pipeline.afterRegion (dat1 (bufs3 m) c) (V3 m (left0 m) c) (Proc.devRef .tc r)

/-- The first call's results, among all calls' results. -/
theorem outs_two (r : Ref sig .tc) (c : Dev nD) : outs m 2 r c = left0 m 2 r c := rfl
/-- The second call's results, among all calls' results. -/
theorem outs_four (r : Ref sig .tc) (c : Dev nD) :
    outs m 4 r c = Pipeline.afterRegion (dat1 (bufs3 m) c) (V3 m (left0 m) c) (Proc.devRef .tc r) := rfl
/-- After the first call the arrays do not depend on the second call's results. -/
theorem V2_outs (c : Dev nD) : V2 m (outs m) c = V2 m (left0 m) c := by
  unfold V2; rw [outs_two, outs_two, outs_two]
/-- Before the second call the arrays do not depend on its results. -/
theorem V3_outs (c : Dev nD) : V3 m (outs m) c = V3 m (left0 m) c := by
  unfold V3; rw [V2_outs]

/-- The two regions' proof data. -/
def pdats : (p : Fin 2) → (c : Dev nD) → Dat τ (Elt F) Unit ℕ (UR sig nD τ) ℕ (cfgs p) c
  | ⟨0, _⟩ => fun c => dat0 (bufs1 m) c
  | ⟨1, _⟩ => fun c => dat1 (bufs3 m) c

/-- One index is assigned at every semaphore of a TensorCore; nothing is ever owed, so one level does. -/
def lvIx (g : GSem nD τ sig) : Finset Unit := if g.1.2 = .tc then {()} else ∅
/-- The level of every counter: zero. -/
def lvOf (_ : GSem nD τ sig) (_ : Unit) : ℕ := 0

/-- No counter outside the tensor cores is tracked. -/
theorem lvIx_off (g : GSem nD τ sig) (h : g.1.2 ≠ .tc) : lvIx g = ∅ := if_neg h

/-- Each call's counters stand on their own level. -/
theorem cut (p : Fin 2) : Pipeline.LevelCut (nD := nD) (τ := τ) (pcfgs (F := F)) adm () lvIx lvOf p (fun _ => 0) (fun _ => 0) where
  hι c w s := by unfold lvIx; rw [if_pos rfl]; exact Finset.mem_singleton_self ()
  hιb c w s := Nat.le_refl 0
  hD c g i h := absurd h (lt_irrefl _)

/-- Beside the buffers a core carries that it owes nothing, and the generator register. -/
def beside (_ : Fin 3) (c : Dev nD) : sProp 𝕄 :=
  iprop((∃ W, owes (c : Thread nD τ) (0 : CellTallies nD τ sig Unit) W) ∗ (∃ r, prngReg c r) ∗ emp)

set_option backward.isDefEq.respectTransparency.types false in
/-- The first region's record: entered from the buffers after the first host stretch. -/
def rec0 : Pipeline.RegionSeg (pcfgs (F := F)) adm (pdats m) () defs₀ Variants.none lvIx lvOf 0 :=
  Pipeline.RegionSeg.ofHeldIn (pcfgs (F := F)) adm (pdats m) () defs₀ Variants.none lvIx lvOf 0 (fun _ => 0)
    (Pipeline.ucRefs τ sig) (fun c => iprop(∃ r, prngReg c r)) (fun c => iprop(∃ r, prngReg c r)) launch0.toP rfl
    (fun c => (obligation0 (bufs1 m) c).loose) (fun _ _ => rfl) (fun _ => rfl) (fun c => (dat0 (bufs1 m) c).share_full fun _ => rfl)
    (fun c => hin0 (bufs1 m) c) (fun c => hout0 (bufs1 m) c) (fun _ => 0) (cut 0) (fun _ => iprop(emp)) (V1 m)
    (fun c w => A0_eq (bufs1 m) c w)

set_option backward.isDefEq.respectTransparency.types false in
/-- The second region's record: entered from the buffers after the second host stretch. -/
def rec1 : Pipeline.RegionSeg (pcfgs (F := F)) adm (pdats m) () defs₀ Variants.none lvIx lvOf 1 :=
  Pipeline.RegionSeg.ofHeldIn (pcfgs (F := F)) adm (pdats m) () defs₀ Variants.none lvIx lvOf 1 (fun _ => 0)
    (Pipeline.ucRefs τ sig) (fun c => iprop(∃ r, prngReg c r)) (fun c => iprop(∃ r, prngReg c r)) launch1.toP rfl
    (fun c => (obligation1 (bufs3 m) c).loose) (fun _ _ => rfl) (fun _ => rfl) (fun c => (dat1 (bufs3 m) c).share_full fun _ => rfl)
    (fun c => Idealize.SL.BI.Entails.refl _) (fun c => Idealize.SL.BI.Entails.refl _) (fun _ => 0) (cut 1) (fun _ => iprop(emp)) (V3 m (left0 m))
    (fun c w => A1_eq (bufs3 m) c w)

/-- The arrays of call 0 are among the program's buffers. -/
theorem arr0_sub : Pipeline.arrRefs (τ := τ) spec0 ⊆ Pipeline.ucRefs τ sig := Pipeline.arrRefs_sub_ucRefs spec0 (by decide)
/-- The arrays of call 1 are among the program's buffers. -/
theorem arr1_sub : Pipeline.arrRefs (τ := τ) spec1 ⊆ Pipeline.ucRefs τ sig := Pipeline.arrRefs_sub_ucRefs spec1 (by decide)

/-- Only the three results' windows of the first region are written back. -/
theorem written0 : ∀ w : Fin cfg0.W, (cfg0.win w).isOut = false ∨ Pipeline.arrRef spec0 w ∈ ([main_v5_0, main_v5_1, main_v5_2] : List (Ref sig .tc)) := by decide
/-- An output window of the second call writes one of its two results. -/
theorem written1 : ∀ w : Fin cfg1.W, (cfg1.win w).isOut = false ∨ Pipeline.arrRef spec1 w ∈ ([main_v12_0, main_v12_1] : List (Ref sig .tc)) := by decide

/-- After the first region every unscoped buffer holds what the host program's state says. -/
theorem after0_eq (c : Dev nD) : ∀ b ∈ Pipeline.ucRefs τ sig, Pipeline.afterRegion (dat0 (bufs1 m) c) (V1 m c) b = V2 m (outs m) c b := by
  intro b hb
  obtain ⟨r, -, rfl⟩ := Finset.mem_map.mp (Finset.mem_filter.mp hb).1
  by_cases h : r ∈ ([main_v5_0, main_v5_1, main_v5_2] : List (Ref sig .tc))
  · simp only [List.mem_cons, List.not_mem_nil, or_false] at h
    rcases h with rfl | rfl | rfl
    · exact (show V2 m (outs m) c (Proc.devRef .tc main_v5_0) = left0 m 2 main_v5_0 c by
        unfold V2; rw [Function.update_of_ne (by decide), Function.update_of_ne (by decide), Function.update_self]; rfl).symm
    · exact (show V2 m (outs m) c (Proc.devRef .tc main_v5_1) = left0 m 2 main_v5_1 c by
        unfold V2; rw [Function.update_of_ne (by decide), Function.update_self]; rfl).symm
    · exact (show V2 m (outs m) c (Proc.devRef .tc main_v5_2) = left0 m 2 main_v5_2 c by
        unfold V2; rw [Function.update_self]; rfl).symm
  · exact (Pipeline.afterRegion_keeps (dat0 (bufs1 m) c) (V1 m c) launch0.win.arr_inj (A0_eq (bufs1 m) c) r
      fun w hw => (written0 w).resolve_right fun h' => h (hw ▸ h')).trans (V2_of m (outs m) c r h).symm

/-- After the second region likewise. -/
theorem after1_eq (c : Dev nD) : ∀ b ∈ Pipeline.ucRefs τ sig, Pipeline.afterRegion (dat1 (bufs3 m) c) (V3 m (left0 m) c) b = V4 m (outs m) c b := by
  intro b hb
  obtain ⟨r, -, rfl⟩ := Finset.mem_map.mp (Finset.mem_filter.mp hb).1
  by_cases h : r ∈ ([main_v12_0, main_v12_1] : List (Ref sig .tc))
  · simp only [List.mem_cons, List.not_mem_nil, or_false] at h
    rcases h with rfl | rfl
    · exact (show V4 m (outs m) c (Proc.devRef .tc main_v12_0) = outs m 4 main_v12_0 c by
        unfold V4; rw [Function.update_of_ne (by decide), Function.update_self]).symm
    · exact (show V4 m (outs m) c (Proc.devRef .tc main_v12_1) = outs m 4 main_v12_1 c by
        unfold V4; rw [Function.update_self]).symm
  · exact (Pipeline.afterRegion_keeps (dat1 (bufs3 m) c) (V3 m (left0 m) c) launch1.win.arr_inj (A1_eq (bufs3 m) c) r
      fun w hw => (written1 w).resolve_right fun h' => h (hw ▸ h')).trans
        ((V4_of m (outs m) c r h).trans (congrFun (V3_outs m c) _)).symm

set_option backward.isDefEq.respectTransparency.types false in
/-- What the host holds before call 0 is what the call asks for. -/
theorem pre0 (c : Dev nD) : iprop(StableHlo.held (c : Thread nD τ) (Pipeline.ucRefs τ sig) (V1 m c) ∗ beside 0 c) ⊢ (rec0 m).pre c := by
  unfold beside rec0
  refine Pipeline.RegionSeg.ofHeldIn_pre (S := Pipeline.ucRefs τ sig) (D := fun _ => 0) (X := fun c => iprop(∃ r, prngReg c r)) (R := fun _ => iprop(emp)) (W := V1 m) ?_ c
  exact arr0_sub

set_option backward.isDefEq.respectTransparency.types false in
/-- What call 0 gives back is what the host holds after it. -/
theorem post0 (c : Dev nD) : (rec0 m).post c ⊢ iprop(StableHlo.held (c : Thread nD τ) (Pipeline.ucRefs τ sig) (V2 m (outs m) c) ∗ beside 1 c) := by
  rw [← StableHlo.held_congr (c : Thread nD τ) (after0_eq m c)]
  unfold beside rec0
  refine Pipeline.RegionSeg.ofHeldIn_post ?_ c
  exact arr0_sub

set_option backward.isDefEq.respectTransparency.types false in
/-- What the host holds before call 1 is what the call asks for. -/
theorem pre1 (c : Dev nD) : iprop(StableHlo.held (c : Thread nD τ) (Pipeline.ucRefs τ sig) (V3 m (outs m) c) ∗ beside 1 c) ⊢ (rec1 m).pre c := by
  rw [V3_outs]
  unfold beside rec1
  refine Pipeline.RegionSeg.ofHeldIn_pre (S := Pipeline.ucRefs τ sig) (D := fun _ => 0) (X := fun c => iprop(∃ r, prngReg c r)) (R := fun _ => iprop(emp)) (W := V3 m (left0 m)) ?_ c
  exact arr1_sub

set_option backward.isDefEq.respectTransparency.types false in
/-- What call 1 gives back is what the host holds after it. -/
theorem post1 (c : Dev nD) : (rec1 m).post c ⊢ iprop(StableHlo.held (c : Thread nD τ) (Pipeline.ucRefs τ sig) (V4 m (outs m) c) ∗ beside 2 c) := by
  rw [← StableHlo.held_congr (c : Thread nD τ) (after1_eq m c)]
  unfold beside rec1
  refine Pipeline.RegionSeg.ofHeldIn_post ?_ c
  exact arr1_sub

/-- What a core is launched with is what is kept beside the arrays before the first call. -/
theorem beside_core (c : Dev nD) :
    iprop(unscopedSems0 c ∗ owes (c : Thread nD τ) (0 : CellTallies nD τ sig Unit) ∅ ∗ Pipeline.launchCred (fun _ => 0) c ∗ prngReg c (ρ c) ∗ emp) ⊢ (beside (F := F) 0 c : sProp 𝕄) := by
  unfold beside
  iintro ⟨-, Ho, -, Hg, -⟩
  isplitl [Ho]; · iexists _; iexact Ho
  isplitl [Hg]; · iexists _; iexact Hg
  iempintro

/-- The launch makes what rides beside the buffers on every core. -/
theorem launch_beside :
    iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts lvIx lvOf)
      ⊢ (|={Set.univ}=> bigSep Finset.univ (beside (F := F) 0) : sProp 𝕄) := by
  have h : (bigSep Finset.univ fun c : Dev nD => (iprop(unscopedSems0 c ∗ owes (c : Thread nD τ) (0 : CellTallies nD τ sig Unit) ∅ ∗ Pipeline.launchCred (fun _ => 0) c ∗ prngReg c (ρ c) ∗ emp) : sProp 𝕄))
      ⊢ bigSep Finset.univ (beside (F := F) 0) := bigSep_mono fun c _ => beside_core ρ c
  iintro ⟨H, -⟩
  imodintro
  iapply h
  iexact H

/-- At the end nothing is owed. -/
theorem beside_end (c : Dev nD) : beside 2 c ⊢ (iprop(∃ W, owes (c : Thread nD τ) (0 : CellTallies nD τ sig Unit) W) : sProp 𝕄) := by
  unfold beside
  iintro ⟨Ho, -, -⟩
  iexact Ho

/-- What a final state holds: the arguments as launched, the two results at what the last host stretch leaves. -/
def Final (c : Dev nD) (s : MemSt nD τ sig (Elt F)) : Prop :=
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_v13) = V5 m (outs m) c main_v13 ∧ s.mem ((c.tc : Thread nD τ).loc main_v12_1) = V5 m (outs m) c main_v12_1

set_option backward.isDefEq.respectTransparency.types false in
set_option maxHeartbeats 4000000 in
/-- Every fair execution terminates with the arguments as launched, the two results computed, every counter at zero. -/
theorem run_main : θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) () cellOf_inj emb₁ defs₀ Variants.none lvIx lvOf m ρ main
    (segs m (outs m) Variants.none lvIx lvOf beside () (pdats m) (rec0 m) (rec1 m))
    (fun c Q => by
      rewrite [main_chain c, Pipeline.Seg.run_eq_chain,
        show (segs m (outs m) Variants.none lvIx lvOf beside () (pdats m) (rec0 m) (rec1 m) c).map Pipeline.Seg.prog = [
          StableHlo.seq hostOps0, Prog.lift (.customCall (Pipeline.entry 0) ()), StableHlo.seq hostOps1,
          Prog.lift (.customCall (Pipeline.entry 1) ()), StableHlo.seq hostOps2] from rfl]
      dsimp (config := { failIfUnchanged := false }) only
      exact .rfl)
    (fun c => by simp only [segs, Pipeline.Seg.pipes_host, Pipeline.Seg.pipes_region, Pipeline.Seg.pipes_nil]; decide) (fun _ => 0) lvIx_off
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ beside 0 c))
    (Tₙ := fun c => StableHlo.held (c : Thread nD τ) (Pipeline.ucRefs τ sig) (V5 m (outs m) c))
    (hch := fun c => ⟨.rfl, pre0 m c, post0 m c, pre1 m c, post1 m c, sep_mono .rfl (beside_end c)⟩)
    (hinit := ?_) (QY := Final m) (hfin := fun c s' => ?_)
    (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_beside ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c),
        (h (Proc.devRef .tc main_arg9) (Finset.mem_filter.mpr ⟨StableHlo.devRef_mem_tcRefs main_arg9, by decide⟩)).trans (V5_main_arg9 m (outs m) c),
        (h (Proc.devRef .tc main_v13) (Finset.mem_filter.mpr ⟨StableHlo.devRef_mem_tcRefs main_v13, by decide⟩)), (h (Proc.devRef .tc main_v12_1) (Finset.mem_filter.mpr ⟨StableHlo.devRef_mem_tcRefs main_v12_1, by decide⟩))⟩
    iexact HSI

end Cert.KernelIdeal.Hand

end
-- ==== Proof.Frames.lean ====
module

public import proofs.«01_k».proof.Defs
public import proofs.«01_k».proof.Proof.Plain.Main
public import proofs.«01_k».proof.Proof.Ideal.Main
public import proofs.«01_k».proof.Proof.Gen.ReferenceIdeal.Run
public import Idealize.ShloMosaic.Lib.Quiescent

/-! The frames: each program ends with its arguments as they were and every counter at zero. -/

@[expose] public section

noncomputable section

namespace Cert.Proof

open Idealize.ShloMosaic Idealize.ShloMosaic.TcCoe Idealize.SL.Sem

/-- The first ten of twelve facts. -/
private theorem kept {p₀ p₁ p₂ p₃ p₄ p₅ p₆ p₇ p₈ p₉ q r : Prop}
    (h : p₀ ∧ p₁ ∧ p₂ ∧ p₃ ∧ p₄ ∧ p₅ ∧ p₆ ∧ p₇ ∧ p₈ ∧ p₉ ∧ q ∧ r) : p₀ ∧ p₁ ∧ p₂ ∧ p₃ ∧ p₄ ∧ p₅ ∧ p₆ ∧ p₇ ∧ p₈ ∧ p₉ := by
  obtain ⟨h₀, h₁, h₂, h₃, h₄, h₅, h₆, h₇, h₈, h₉, -, -⟩ := h
  exact ⟨h₀, h₁, h₂, h₃, h₄, h₅, h₆, h₇, h₈, h₉⟩

/-- The kernel over bit patterns keeps its arguments and ends quiescent. -/
theorem frame_kernel : Cert.quiescent_Kernel (hKernel := Cert.Kernel.Gen.facts) :=
  fun m g _ => (θ_run _ _ _).mono (fun _ h => ⟨fun c => kept (h.1 c), h.2⟩) (Cert.Kernel.Hand.run_main (F := Bits) m g)

/-- The kernel over extended reals keeps its arguments and ends quiescent. -/
theorem frame_ideal : Cert.quiescent_KernelIdeal (hKernelIdeal := Cert.KernelIdeal.Gen.facts) :=
  fun m g _ => (θ_run _ _ _).mono (fun _ h => ⟨fun c => kept (h.1 c), h.2⟩) (Cert.KernelIdeal.Hand.run_main (F := Ideal) m g)

/-- The reference over extended reals keeps its arguments and ends quiescent. -/
theorem frame_reference : Cert.quiescent_ReferenceIdeal (hReferenceIdeal := Cert.ReferenceIdeal.Gen.facts) :=
  fun m g _ => (θ_run _ _ _).mono
    (fun r h => ⟨fun c => (h c).2.2, sem_eq_zero_of_no_sems (by decide) r.2⟩) (Cert.ReferenceIdeal.Value.run (F := Ideal) m g)

end Cert.Proof

end
-- ==== Proof.Value.Landing.lean ====
module

public import proofs.«01_k».proof.Proof.Gen.ReferenceIdeal.Read
public import Idealize.ShloMosaic.Lib.Routing.OpsPair
public import Idealize.ShloMosaic.Lib.Routing.OpsSet
public import Idealize.ShloMosaic.Lib.Pointwise

/-! Where the updates of the reference's scatters land, and what its gather of the diagonal reads. -/

@[expose] public section

set_option maxRecDepth 16384

noncomputable section

namespace Cert.ReferenceIdeal.Hand

open Cert.ReferenceIdeal.Gen
open Idealize.ShloMosaic Idealize.ShloMosaic.TcCoe Idealize.ShloMosaic.Tactic

/-- Update `i` of the scatter into a vector lands at `j` exactly when its index word, read signed, is `j`. -/
theorem lands_vec (idx : IVec S1024x1 32) (i j : Fin 1024) :
    (scatter_S1024_S1024x1_S1024_n_0_0_1).resultIdx? (ix1 i) idx = some (ix1 j) ↔ (idx (ix2 i 0)).toInt = (j.val : Int) := by
  have hs : (scatter_S1024_S1024x1_S1024_n_0_0_1).start (ix1 i) idx 0 = (idx (ix2 i 0)).toInt := by
    unfold ScatterDims.start
    rw [dif_pos (by decide)]
    refine congrArg (fun y => (idx y).toInt) (funext fun a => Fin.ext ?_)
    match a with
    | ⟨0, _⟩ => rfl
    | ⟨1, _⟩ => rfl
  have hw : (scatter_S1024_S1024x1_S1024_n_0_0_1).window (ix1 i) 0 = 0 := by
    unfold ScatterDims.window
    rw [dif_neg (by decide)]
  refine (Routing.resultIdx?_ix1 (N := 1024) _ (ix1 i) idx j).trans ?_
  rw [hs, hw]
  simp

/-- Update `(i, k)` of the scatter of rows lands at `(j, h)` exactly when row `i`'s index word, read signed, is `j` and `k = h`. -/
theorem lands_rows (idx : IVec S1024x1 32) (i j : Fin 1024) (k h : Fin 64) :
    (scatter_S1024x64_S1024x1_S1024x64_1_0_0_1).resultIdx? (ix2 i k) idx = some (ix2 j h)
      ↔ (idx (ix2 i 0)).toInt = (j.val : Int) ∧ k = h := by
  have hs0 : (scatter_S1024x64_S1024x1_S1024x64_1_0_0_1).start (ix2 i k) idx 0 = (idx (ix2 i 0)).toInt := by
    unfold ScatterDims.start
    rw [dif_pos (by decide)]
    refine congrArg (fun y => (idx y).toInt) (funext fun a => Fin.ext ?_)
    match a with
    | ⟨0, _⟩ => rfl
    | ⟨1, _⟩ => rfl
  have hs1 : (scatter_S1024x64_S1024x1_S1024x64_1_0_0_1).start (ix2 i k) idx 1 = 0 := by
    unfold ScatterDims.start
    rw [dif_neg (by decide)]
  have hw0 : (scatter_S1024x64_S1024x1_S1024x64_1_0_0_1).window (ix2 i k) 0 = 0 := by
    unfold ScatterDims.window
    rw [dif_neg (by decide)]
  have hw1 : (scatter_S1024x64_S1024x1_S1024x64_1_0_0_1).window (ix2 i k) 1 = k.val := by
    unfold ScatterDims.window
    rw [dif_pos (by decide)]
    rfl
  refine (Routing.resultIdx?_ix2 (R := 1024) (C := 64) _ (ix2 i k) idx j h).trans ?_
  rw [hs0, hs1, hw0, hw1]
  constructor
  · rintro ⟨a, b⟩; exact ⟨by omega, Fin.ext (by omega)⟩
  · rintro ⟨a, rfl⟩; exact ⟨by omega, by omega⟩

/-- Update `k` of the scatter into a matrix lands at `(i, j)` exactly when its two index words, read signed, are `i` and `j`. -/
theorem lands_pair (idx : IVec S1024x2 32) (k i j : Fin 1024) :
    (scatter_S1024x1024_S1024x2_S1024_n_01_01_1).resultIdx? (ix1 k) idx = some (ix2 i j)
      ↔ (idx (ix2 k 0)).toInt = (i.val : Int) ∧ (idx (ix2 k 1)).toInt = (j.val : Int) := by
  have hs0 : (scatter_S1024x1024_S1024x2_S1024_n_01_01_1).start (ix1 k) idx 0 = (idx (ix2 k 0)).toInt := by
    unfold ScatterDims.start
    rw [dif_pos (by decide)]
    refine congrArg (fun y => (idx y).toInt) (funext fun a => Fin.ext ?_)
    match a with
    | ⟨0, _⟩ => rfl
    | ⟨1, _⟩ => rfl
  have hs1 : (scatter_S1024x1024_S1024x2_S1024_n_01_01_1).start (ix1 k) idx 1 = (idx (ix2 k 1)).toInt := by
    unfold ScatterDims.start
    rw [dif_pos (by decide)]
    refine congrArg (fun y => (idx y).toInt) (funext fun a => Fin.ext ?_)
    match a with
    | ⟨0, _⟩ => rfl
    | ⟨1, _⟩ => rfl
  have hw : ∀ q, (scatter_S1024x1024_S1024x2_S1024_n_01_01_1).window (ix1 k) q = 0 := fun q => by
    unfold ScatterDims.window
    rw [dif_neg (by revert q; decide)]
  refine (Routing.resultIdx?_ix2 (R := 1024) (C := 1024) _ (ix1 k) idx i j).trans ?_
  rw [hs0, hs1, hw, hw]
  simp

/-- The gather of a matrix by pairs of words reads, at `i`, the entry the two words name. -/
theorem gather_pair {α : Type} (x : S1024x1024.Idx → α) (idx : IVec S1024x2 32) (i a b : Fin 1024)
    (ha : idx (ix2 i 0) = BitVec.ofNat 32 a.val) (hb : idx (ix2 i 1) = BitVec.ofNat 32 b.val) :
    Host.gather gather_S1024x1024_S1024x2_S1024_n_01_n_n_01_1_11 x idx (ix1 i) = x (ix2 a b) := by
  refine congrArg x (funext fun q => Fin.ext ?_)
  have h0 : (gather_S1024x1024_S1024x2_S1024_n_01_n_n_01_1_11).start (ix1 i) idx 0 = a.val := by
    unfold GatherDims.start
    rw [dif_pos (by decide)]
    have e : (gather_S1024x1024_S1024x2_S1024_n_01_n_n_01_1_11).siIdx (ix1 i) ⟨0, by decide⟩ = ix2 i 0 := by
      funext q; apply Fin.ext
      match q with
      | ⟨0, _⟩ => rfl
      | ⟨1, _⟩ => rfl
    refine (congrArg (fun y => min (idx y).toInt.toNat 1023) e).trans ?_
    have := a.isLt
    rw [ha, StableHlo.Predicate.toInt_ofNat_small _ (by omega)]
    omega
  have h1 : (gather_S1024x1024_S1024x2_S1024_n_01_n_n_01_1_11).start (ix1 i) idx 1 = b.val := by
    unfold GatherDims.start
    rw [dif_pos (by decide)]
    have e : (gather_S1024x1024_S1024x2_S1024_n_01_n_n_01_1_11).siIdx (ix1 i) ⟨1, by decide⟩ = ix2 i 1 := by
      funext q; apply Fin.ext
      match q with
      | ⟨0, _⟩ => rfl
      | ⟨1, _⟩ => rfl
    refine (congrArg (fun y => min (idx y).toInt.toNat 1023) e).trans ?_
    have := b.isLt
    rw [hb, StableHlo.Predicate.toInt_ofNat_small _ (by omega)]
    omega
  match q with
  | ⟨0, _⟩ => exact h0
  | ⟨1, _⟩ => exact h1

/-- A word read signed is a number below 1024 exactly when it is that number's word. -/
theorem signed_eq (w : BitVec 32) (j : Fin 1024) : w.toInt = (j.val : Int) ↔ w = BitVec.ofNat 32 j.val := by
  have hj := j.isLt
  constructor
  · intro h
    apply BitVec.eq_of_toInt_eq
    rw [h, StableHlo.Predicate.toInt_ofNat_small _ (by omega)]
  · intro h
    rw [h, StableHlo.Predicate.toInt_ofNat_small _ (by omega)]

/-- The accumulating scatter into a vector: entry `j` gains every update whose word is `j`. -/
theorem scatter_vec (x : FVec Ideal S1024 .f32) (idx : IVec S1024x1 32) (u : FVec Ideal S1024 .f32) (j : Fin 1024) :
    Host.scatterAdd scatter_S1024_S1024x1_S1024_n_0_0_1 x idx u (ix1 j)
      = (x (ix1 j) + ∑ i : Fin 1024, if idx (ix2 i 0) = BitVec.ofNat 32 j.val then u (ix1 i) else 0 : EReal) := by
  show (x (ix1 j) + ∑ y ∈ Finset.univ.filter (fun y => (scatter_S1024_S1024x1_S1024_n_0_0_1).resultIdx? y idx = some (ix1 j)), u y : EReal) = _
  rw [Finset.sum_filter]
  refine congrArg (x (ix1 j) + · : EReal → EReal) ((sum_idx1 _).trans ?_)
  refine Finset.sum_congr rfl fun i _ => ?_
  exact if_congr ((lands_vec idx i j).trans (signed_eq _ j)) rfl rfl

/-- The accumulating scatter of rows: row `j` gains every update row whose word is `j`. -/
theorem scatter_rows (x : FVec Ideal S1024x64 .f32) (idx : IVec S1024x1 32) (u : FVec Ideal S1024x64 .f32) (j : Fin 1024) (h : Fin 64) :
    Host.scatterAdd scatter_S1024x64_S1024x1_S1024x64_1_0_0_1 x idx u (ix2 j h)
      = (x (ix2 j h) + ∑ i : Fin 1024, if idx (ix2 i 0) = BitVec.ofNat 32 j.val then u (ix2 i h) else 0 : EReal) := by
  show (x (ix2 j h) + ∑ y ∈ Finset.univ.filter (fun y => (scatter_S1024x64_S1024x1_S1024x64_1_0_0_1).resultIdx? y idx = some (ix2 j h)), u y : EReal) = _
  rw [Finset.sum_filter]
  refine congrArg (x (ix2 j h) + · : EReal → EReal) ((sum_idx2 _).trans ?_)
  refine Finset.sum_congr rfl fun i _ => ?_
  refine (Finset.sum_congr rfl fun k _ => if_congr ((lands_rows idx i j k h).trans (and_congr (signed_eq _ j) Iff.rfl)) rfl rfl).trans ?_
  by_cases q : idx (ix2 i 0) = BitVec.ofNat 32 j.val
  · simp [q]
  · simp [q]

end Cert.ReferenceIdeal.Hand

end
-- ==== Proof.Value.Diag.lean ====
module

public import proofs.«01_k».proof.Proof.Value.Landing

/-! The reference's diagonal words, its off-diagonal matrix and its diagonal. -/

@[expose] public section

set_option maxRecDepth 16384

noncomputable section

namespace Cert.ReferenceIdeal.Hand

open Cert.ReferenceIdeal.Gen
open Idealize.ShloMosaic Idealize.ShloMosaic.TcCoe Idealize.ShloMosaic.Tactic
open Cert.ReferenceIdeal.Read

/-- The word of a row number below 1024 is not negative, so the wrapped row numbers are the row numbers. -/
theorem wrap_row (i : Fin 1024) (a : BitVec 32) :
    Scalar.select (IntOp.cmpi .slt (BitVec.ofNat 32 i.val) 0#32) a (BitVec.ofNat 32 i.val) = BitVec.ofNat 32 i.val := by
  have hi := i.isLt
  refine Routing.wrap_of_lt _ _ ?_
  rw [BitVec.toNat_ofNat]
  show i.val % 4294967296 < 2147483648
  omega

/-- Two columns joined side by side, when both hold the row numbers: every entry is its row's number. -/
theorem pair_words (x y : IVec S1024x1 32) (h : Shape.Concatenates [S1024x1, S1024x1] S1024x2 1) (i : Fin 1024) (q : Fin 2)
    (hx : x (ix2 i 0) = BitVec.ofNat 32 i.val) (hy : y (ix2 i 0) = BitVec.ofNat 32 i.val) :
    concatenate S1024x2 1 [⟨S1024x1, x⟩, ⟨S1024x1, y⟩] h (ix2 i q) = BitVec.ofNat 32 i.val := by
  match q with
  | ⟨0, _⟩ =>
    refine (concatenate_pair_apply_left (t := S1024x2) (s₁ := S1024x1) (s₂ := S1024x1) 1 x y h (ix2 i (0 : Fin 2)) rfl (ix2 i (0 : Fin 1)) fun b => ?_).trans hx
    match b with
    | ⟨0, _⟩ => rfl
    | ⟨1, _⟩ => rfl
  | ⟨1, _⟩ =>
    refine (concatenate_pair_apply_right (t := S1024x2) (s₁ := S1024x1) (s₂ := S1024x1) 1 x y h (ix2 i (1 : Fin 2)) rfl rfl (ix2 i (0 : Fin 1)) (fun b hb => ?_) rfl).trans hy
    match b with
    | ⟨0, _⟩ => rfl
    | ⟨1, _⟩ => exact absurd rfl hb

/-- Both words of pair `i` of the diagonal's index table are `i`. -/
theorem v13_at (i : Fin 1024) (q : Fin 2) : val_main_v13 (F := Ideal) (ix2 i q) = BitVec.ofNat 32 i.val :=
  pair_words _ _ _ i q ((val_main_v11_apply _).trans (wrap_row i _)) ((val_main_v12_apply _).trans (wrap_row i _))

/-- The second copy of that table. -/
theorem v29_at (i : Fin 1024) (q : Fin 2) : val_main_v29 (F := Ideal) (ix2 i q) = BitVec.ofNat 32 i.val :=
  pair_words _ _ _ i q ((val_main_v27_apply _).trans (wrap_row i _)) ((val_main_v28_apply _).trans (wrap_row i _))

/-- The zeros written on the diagonal. -/
theorem v14_at (y : S1024.Idx) : val_main_v14 (F := Ideal) y = (0 : EReal) :=
  (val_main_v14_apply y).trans (by rw [val_main_cst_apply]; exact Ideal.ofBits_zero _)

/-- A matrix with its diagonal set to zero. -/
theorem v15_at (x : FVec Ideal S1024x1024 .f32) (i j : Fin 1024) :
    val_main_v15 (F := Ideal) x (ix2 i j) = (if j = i then 0 else x (ix2 i j) : EReal) := by
  unfold val_main_v15
  have key : ∀ k : Fin 1024, (scatter_S1024x1024_S1024x2_S1024_n_01_01_1).resultIdx? (ix1 k) (val_main_v13 (F := Ideal)) = some (ix2 i j)
      ↔ k = i ∧ k = j := fun k => by
    rw [lands_pair, v13_at, v13_at]
    have hk := k.isLt
    rw [StableHlo.Predicate.toInt_ofNat_small _ (by omega)]
    constructor
    · rintro ⟨a, b⟩; exact ⟨Fin.ext (by omega), Fin.ext (by omega)⟩
    · rintro ⟨a, b⟩; exact ⟨by rw [a], by rw [b]⟩
  by_cases q : j = i
  · rw [if_pos q]
    exact Routing.scatter_set_hit _ _ _ _ _ (0 : EReal) (fun k _ => v14_at k) (ix1 i) ((key i).2 ⟨rfl, q.symm⟩)
  · rw [if_neg q]
    refine Routing.scatter_set_miss _ _ _ _ _ fun k hk => ?_
    obtain ⟨k, rfl⟩ : ∃ k' : Fin 1024, k = ix1 k' := ⟨k 0, eq_ix1 k⟩
    obtain ⟨a, b⟩ := (key k).1 hk
    exact q (b.symm.trans a)

/-- A matrix's diagonal. -/
theorem v30_at (x : FVec Ideal S1024x1024 .f32) (i : Fin 1024) : val_main_v30 (F := Ideal) x (ix1 i) = x (ix2 i i) :=
  gather_pair x _ i i i (v29_at i 0) (v29_at i 1)

end Cert.ReferenceIdeal.Hand

end
-- ==== Proof.Value.Reference.lean ====
module

public import proofs.«01_k».proof.Proof.Value.Diag

/-! The reference's two results, entry by entry of its arguments. -/

@[expose] public section

set_option maxRecDepth 16384

noncomputable section

namespace Cert.ReferenceIdeal.Hand

open Cert.ReferenceIdeal.Gen
open Idealize.ShloMosaic Idealize.ShloMosaic.TcCoe Idealize.ShloMosaic.Tactic
open Cert.ReferenceIdeal.Read

variable (ip : FVec Ideal S1024 .f32) (hp : FVec Ideal S1024x64 .f32) (hs : FVec Ideal S1024x1024x64 .f32)
  (sd : FVec Ideal S1024x1024 .f32) (br : FVec Ideal S1024x2 .f32) (ti fi : IVec S1024 32)

/-- What row `i` sends along branch `q`: its weight, its diagonal entry and the branch's share. -/
abbrev sent (i : Fin 1024) (q : Fin 2) : EReal := ip (ix1 i) * sd (ix2 i i) * br (ix2 i q)

/-- The first branch's shares. -/
theorem v36_at (i : Fin 1024) : val_main_v36 (F := Ideal) ip sd br (ix1 i) = sent ip sd br i 0 := by
  refine (val_main_v36_apply (F := Ideal) ip sd br _).trans ?_
  rw [val_main_v35_apply, v30_at, val_main_v32_apply, val_main_v31_apply]
  refine congrArg (fun y => (ip (ix1 i) * sd (ix2 i i) * br y : EReal)) (funext fun a => Fin.ext ?_)
  match a with
  | ⟨0, _⟩ => exact Nat.div_one _
  | ⟨1, _⟩ => rfl

/-- The second branch's shares. -/
theorem v38_at (i : Fin 1024) : val_main_v38 (F := Ideal) ip sd br (ix1 i) = sent ip sd br i 1 := by
  refine (val_main_v38_apply (F := Ideal) ip sd br _).trans ?_
  rw [val_main_v37_apply, v30_at, val_main_v34_apply, val_main_v33_apply]
  refine congrArg (fun y => (ip (ix1 i) * sd (ix2 i i) * br y : EReal)) (funext fun a => Fin.ext ?_)
  match a with
  | ⟨0, _⟩ => exact Nat.div_one _
  | ⟨1, _⟩ => rfl

/-- A scatter's operand of zeros. -/
theorem zeros39 (y : S1024.Idx) : val_main_v39 (F := Ideal) y = (0 : EReal) :=
  (val_main_v39_apply y).trans (by rw [val_main_cst_7_apply]; exact Ideal.ofBits_zero _)
/-- A scatter's operand of zeros. -/
theorem zeros42 (y : S1024.Idx) : val_main_v42 (F := Ideal) y = (0 : EReal) :=
  (val_main_v42_apply y).trans (by rw [val_main_cst_8_apply]; exact Ideal.ofBits_zero _)
/-- A scatter's operand of zeros. -/
theorem zeros51 (y : S1024x64.Idx) : val_main_v51 (F := Ideal) y = (0 : EReal) :=
  (val_main_v51_apply y).trans (by rw [val_main_cst_9_apply]; exact Ideal.ofBits_zero _)
/-- A scatter's operand of zeros. -/
theorem zeros57 (y : S1024x64.Idx) : val_main_v57 (F := Ideal) y = (0 : EReal) :=
  (val_main_v57_apply y).trans (by rw [val_main_cst_10_apply]; exact Ideal.ofBits_zero _)

/-- A column's row coordinate. -/
theorem row_of (f : S1024.Idx) (i : Fin 1024) (h : (f 0).val = i.val) : f = ix1 i := by
  funext a; apply Fin.ext
  match a with
  | ⟨0, _⟩ => exact h

/-- The index column of a vector of words holds the words. -/
theorem word40 (i : Fin 1024) : val_main_v40 (F := Ideal) ti (ix2 i 0) = ti (ix1 i) :=
  (val_main_v40_apply ti _).trans (congrArg ti (row_of _ i rfl))
/-- The index column of a vector of words holds the words. -/
theorem word43 (i : Fin 1024) : val_main_v43 (F := Ideal) fi (ix2 i 0) = fi (ix1 i) :=
  (val_main_v43_apply fi _).trans (congrArg fi (row_of _ i rfl))
/-- The index column of a vector of words holds the words. -/
theorem word52 (i : Fin 1024) : val_main_v52 (F := Ideal) ti (ix2 i 0) = ti (ix1 i) :=
  (val_main_v52_apply ti _).trans (congrArg ti (row_of _ i rfl))
/-- The index column of a vector of words holds the words. -/
theorem word58 (i : Fin 1024) : val_main_v58 (F := Ideal) fi (ix2 i 0) = fi (ix1 i) :=
  (val_main_v58_apply fi _).trans (congrArg fi (row_of _ i rfl))

/-- What entry `j` receives along branch `q`. -/
abbrev gained (idx : IVec S1024 32) (q : Fin 2) (j : Fin 1024) : EReal :=
  ∑ i : Fin 1024, if idx (ix1 i) = BitVec.ofNat 32 j.val then sent ip sd br i q else 0

/-- What entry `(j, h)` receives along branch `q`, each share times the row's payload. -/
abbrev gainedRow (idx : IVec S1024 32) (q : Fin 2) (j : Fin 1024) (h : Fin 64) : EReal :=
  ∑ i : Fin 1024, if idx (ix1 i) = BitVec.ofNat 32 j.val then hp (ix2 i h) * sent ip sd br i q else 0

/-- The reference's value `v41`, read at an index. -/
theorem v41_at (j : Fin 1024) : val_main_v41 (F := Ideal) ip sd br ti (ix1 j) = gained ip sd br ti 0 j := by
  unfold val_main_v41
  rw [scatter_vec, zeros39, zero_add]
  exact Finset.sum_congr rfl fun i _ => by rw [word40, v36_at]

/-- The reference's value `v44`, read at an index. -/
theorem v44_at (j : Fin 1024) : val_main_v44 (F := Ideal) ip sd br fi (ix1 j) = gained ip sd br fi 1 j := by
  unfold val_main_v44
  rw [scatter_vec, zeros42, zero_add]
  exact Finset.sum_congr rfl fun i _ => by rw [word43, v38_at]

/-- The reference's value `v50`, read at an index. -/
theorem v50_at (i : Fin 1024) (h : Fin 64) :
    val_main_v50 (F := Ideal) ip hp sd br (ix2 i h) = (hp (ix2 i h) * sent ip sd br i 0 : EReal) := by
  refine (val_main_v50_apply (F := Ideal) ip hp sd br _).trans ?_
  rw [val_main_v49_apply, val_main_v48_apply, row_of (idx_main_v48 (idx_main_v49 (ix2 i h))) i rfl, v36_at]
  rfl

/-- The reference's value `v56`, read at an index. -/
theorem v56_at (i : Fin 1024) (h : Fin 64) :
    val_main_v56 (F := Ideal) ip hp sd br (ix2 i h) = (hp (ix2 i h) * sent ip sd br i 1 : EReal) := by
  refine (val_main_v56_apply (F := Ideal) ip hp sd br _).trans ?_
  rw [val_main_v55_apply, val_main_v54_apply, row_of (idx_main_v54 (idx_main_v55 (ix2 i h))) i rfl, v38_at]
  rfl

/-- The reference's value `v53`, read at an index. -/
theorem v53_at (j : Fin 1024) (h : Fin 64) : val_main_v53 (F := Ideal) ip hp sd br ti (ix2 j h) = gainedRow ip hp sd br ti 0 j h := by
  unfold val_main_v53
  rw [scatter_rows, zeros51, zero_add]
  exact Finset.sum_congr rfl fun i _ => by rw [word52, v50_at]

/-- The reference's value `v59`, read at an index. -/
theorem v59_at (j : Fin 1024) (h : Fin 64) : val_main_v59 (F := Ideal) ip hp sd br fi (ix2 j h) = gainedRow ip hp sd br fi 1 j h := by
  unfold val_main_v59
  rw [scatter_rows, zeros57, zero_add]
  exact Finset.sum_congr rfl fun i _ => by rw [word58, v56_at]

/-- The weight entry `j` takes from row `i` off the diagonal. -/
abbrev off (i j : Fin 1024) : EReal := ip (ix1 i) * (if j = i then 0 else sd (ix2 i j))

/-- The reference's value `v45`, read at an index. -/
theorem v45_at (j : Fin 1024) : val_main_v45 (F := Ideal) ip sd (ix1 j) = ∑ i : Fin 1024, off ip sd i j := by
  refine (val_main_v45_apply ip sd _).trans (Finset.sum_congr rfl fun i _ => ?_)
  rw [row_of (lidx_main_v45 (ix1 j) i) i rfl,
    show ridx_main_v45 (ix1 j) i = ix2 i j from by funext a; match a with | ⟨0, _⟩ => rfl | ⟨1, _⟩ => rfl, v15_at]

/-- The reference's value `v62`, read at an index. -/
theorem v62_at (i j : Fin 1024) : val_main_v62 (F := Ideal) ip sd (ix2 i j) = off ip sd i j := by
  refine (val_main_v62_apply (F := Ideal) ip sd _).trans ?_
  rw [val_main_v61_apply, val_main_v60_apply, row_of (idx_main_v60 (idx_main_v61 (ix2 i j))) i rfl, v15_at]
  rfl

/-- The reference's value `v63`, read at an index. -/
theorem v63_at (j : Fin 1024) (h : Fin 64) :
    val_main_v63 (F := Ideal) ip hs sd (ix2 j h) = (∑ i : Fin 1024, hs (ix3 i j h) * off ip sd i j : EReal) := by
  refine (val_main_v63_apply ip hs sd _).trans (Finset.sum_congr rfl fun i _ => ?_)
  rw [show lidx_main_v63 (ix2 j h) i = ix3 i j h from by funext a; match a with | ⟨0, _⟩ => rfl | ⟨1, _⟩ => rfl | ⟨2, _⟩ => rfl,
    show ridx_main_v63 (ix2 j h) i = ix2 i j from by funext a; match a with | ⟨0, _⟩ => rfl | ⟨1, _⟩ => rfl, v62_at]

/-- The reference's first result at `j`. -/
theorem v47_at (j : Fin 1024) : val_main_v47 (F := Ideal) ip sd br ti fi (ix1 j)
    = gained ip sd br ti 0 j + gained ip sd br fi 1 j + ∑ i : Fin 1024, off ip sd i j := by
  refine (val_main_v47_apply (F := Ideal) ip sd br ti fi _).trans ?_
  refine congrArg₂ (fun a b : EReal => a + b) ((val_main_v46_apply (F := Ideal) ip sd br ti fi _).trans ?_) (v45_at ip sd j)
  exact congrArg₂ (fun a b : EReal => a + b) (v41_at ip sd br ti j) (v44_at ip sd br fi j)

/-- The reference's second result at `(j, h)`. -/
theorem v70_at (j : Fin 1024) (h : Fin 64) : val_main_v70 (F := Ideal) ip hp hs sd br ti fi (ix2 j h)
    = Ideal.div (gainedRow ip hp sd br ti 0 j h + gainedRow ip hp sd br fi 1 j h + ∑ i : Fin 1024, hs (ix3 i j h) * off ip sd i j)
        (val_main_v47 (F := Ideal) ip sd br ti fi (ix1 j) + Ideal.ofBits FTy.f32 0x33D6BF95#32) := by
  refine (val_main_v70_apply (F := Ideal) ip hp hs sd br ti fi _).trans ?_
  refine congrArg₂ Ideal.div ?_ ?_
  · refine (val_main_v65_apply (F := Ideal) ip hp hs sd br ti fi _).trans ?_
    refine congrArg₂ (fun a b : EReal => a + b) ((val_main_v64_apply (F := Ideal) ip hp sd br ti fi _).trans ?_) (v63_at ip hs sd j h)
    exact congrArg₂ (fun a b : EReal => a + b) (v53_at ip hp sd br ti j h) (v59_at ip hp sd br fi j h)
  · refine (val_main_v69_apply (F := Ideal) ip sd br ti fi _).trans ((val_main_v68_apply (F := Ideal) ip sd br ti fi _).trans ?_)
    refine congrArg₂ (fun a b : EReal => a + b) ((val_main_v66_apply (F := Ideal) ip sd br ti fi _).trans ?_) ?_
    · exact congrArg (val_main_v47 (F := Ideal) ip sd br ti fi) (row_of _ j rfl)
    · exact (val_main_v67_apply (F := Ideal) _).trans (val_main_cst_11_apply (F := Ideal) _)

end Cert.ReferenceIdeal.Hand

end
-- ==== Proof.Value.Fold.lean ====
module

public import proofs.«01_k».proof.Proof.Ideal.Step

/-! The stores of the first kernel's body, written as recursions: the gathered weights, one chunk's accumulation, the chunks. -/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- Slab `n`, rows from `64 k` on, lies in the block. -/
theorem inbH (k n : ℕ) (hk : k < 8) (hn : n < 32) (a : Fin 3) : (![n, 64 * k, 0] : Fin 3 → ℕ) a + S1x64x128.size a ≤ S32x512x128.size a := by
  match a with
  | ⟨0, _⟩ => show n + 1 ≤ 32; omega
  | ⟨1, _⟩ => show 64 * k + 64 ≤ 512; omega
  | ⟨2, _⟩ => show 0 + 128 ≤ 128; omega

/-- Chunk `k` lies in the accumulator. -/
theorem inbA (k : ℕ) (hk : k < 8) (a : Fin 2) : (![64 * k, 0] : Fin 2 → ℕ) a + S64x128.size a ≤ S512x128.size a := by
  match a with
  | ⟨0, _⟩ => show 64 * k + 64 ≤ 512; omega
  | ⟨1, _⟩ => show 0 + 128 ≤ 128; omega

/-- Slab `n` lies in the gathered weights. -/
theorem inbW (n : ℕ) (hn : n < 32) (a : Fin 3) : (![n, 0, 0] : Fin 3 → ℕ) a + S1x512x128.size a ≤ S32x512x128.size a := by
  match a with
  | ⟨0, _⟩ => show n + 1 ≤ 32; omega
  | ⟨1, _⟩ => show 0 + 512 ≤ 512; omega
  | ⟨2, _⟩ => show 0 + 128 ≤ 128; omega

/-- Slab `n` of the proposals at chunk `k`. -/
abbrev rH (k : ℕ) (hk : k < 8) (n : ℕ) (hn : n < 32) : Rect S32x512x128 := Rect.unit ![n, 64 * k, 0] S1x64x128.size (inbH k n hk hn)
/-- Chunk `k` of the accumulator. -/
abbrev rA (k : ℕ) (hk : k < 8) : Rect S512x128 := Rect.unit ![64 * k, 0] S64x128.size (inbA k hk)
/-- Slab `n` of the gathered weights. -/
abbrev rW (n : ℕ) (hn : n < 32) : Rect S32x512x128 := Rect.unit ![n, 0, 0] S1x512x128.size (inbW n hn)

/-- The weights of a point, from the blocks of the skip decisions and of the instruction pointer. -/
def wt (i : grid0.Coords) (X1 : Vec F S1x512x64 .f32) (X2 : Vec F S1x1x32 .f32) : FVec F S512x64 .f32 :=
  k0_pay11 (Scalar.muli (BitVec.ofNat 32 (i 0)) 32#32) (k0_pay4 X2) (k0_pay5 X1) k0_pay6 32#32 k0_pay7 k0_pay8

/-- The diagonal entries of a point's block of the skip decisions, the others zero. -/
def dg (i : grid0.Coords) (X1 : Vec F S1x512x64 .f32) : FVec F S512x64 .f32 :=
  k0_pay10 (Scalar.muli (BitVec.ofNat 32 (i 0)) 32#32) (k0_pay5 X1) k0_pay6 32#32 k0_pay7 k0_pay8

/-- One slab of gathered weights: lane `l` reads the column its index plus `k` names. -/
def gat (k : BitVec 32) (v121 : IVec S512x128 32) (v122 : FVec F S512x128 .f32) : FVec F S1x512x128 .f32 :=
  shapeCast S1x512x128 (dynamicGather 1 v122 (shapeCast S512x128 (shapeCast S512x128x1
    (select (cmpi .slt (addi v121 (broadcast S512x128 k)) (broadcast S512x128 0#32))
      (addi (addi v121 (broadcast S512x128 k)) (broadcast S512x128 128#32)) (addi v121 (broadcast S512x128 k)))
    shapeCasts_S512x128_S512x128x1) shapeCasts_S512x128x1_S512x128)) shapeCasts_S512x128_S1x512x128

/-- The stores of the first `n` slabs of gathered weights, last first. -/
def gatL (v121 : IVec S512x128 32) (v122 : FVec F S512x128 .f32) : (n : ℕ) → n ≤ 32 → List (View.Piece (Elt F) S32x512x128 .f32)
  | 0, _ => []
  | n + 1, h => ⟨rW n h, gat (BitVec.ofNat 32 n) v121 v122⟩ :: gatL v121 v122 n (Nat.le_of_succ_le h)

/-- A chunk accumulated over the first `n` slabs. -/
def chunk (a : FVec F S64x128 .f32) (H W : (n : ℕ) → n < 32 → Vec F S1x64x128 .f32) : (n : ℕ) → n ≤ 32 → FVec F S64x128 .f32
  | 0, _ => a
  | n + 1, h => addf (chunk a H W n (Nat.le_of_succ_le h))
      (mulf (shapeCast S64x128 (H n h) shapeCasts_S1x64x128_S64x128) (shapeCast S64x128 (W n h) shapeCasts_S1x64x128_S64x128))

variable (arg1 : Memref sig .tc .vmem S32x512x128 .f32) (harg1 : arg1.IsWhole) (arg7 : Memref sig .tc .vmem S512x128 .f32) (harg7 : arg7.IsWhole)
  (arg12 : Memref sig .tc .vmem S32x512x128 .f32)

/-- The load of slab `n` of the proposals at chunk `k`. -/
def ldH (x0 : Vec F S32x512x128 .f32) (k : ℕ) (hk : k < 8) (n : ℕ) (hn : n < 32) : Vec F S1x64x128 .f32 :=
  View.readAt (Elt F) arg1.view (rH k hk n hn).toLoadRect (harg1.unread x0)

/-- The load of slab `n` of the gathered weights at chunk `k`. -/
def ldW (L : List (View.Piece (Elt F) S32x512x128 .f32)) (k : ℕ) (hk : k < 8) (n : ℕ) (hn : n < 32) : Vec F S1x64x128 .f32 :=
  arg12.view.readCov L (rH k hk n hn).toLoadRect

/-- The stores of the first `k` chunks over a carried accumulator, last first. -/
def accL (L : List (View.Piece (Elt F) S32x512x128 .f32)) (x0 : Vec F S32x512x128 .f32) (xs0 : Vec F S512x128 .f32) :
    (k : ℕ) → k ≤ 8 → List (View.Piece (Elt F) S512x128 .f32)
  | 0, _ => []
  | k + 1, h => ⟨rA k h,
      shapeCast S64x128 (chunk (View.readAt (Elt F) arg7.view (rA k h).toLoadRect (harg7.unread xs0))
        (ldH arg1 harg1 x0 k h) (ldW arg12 L k h) 32 le_rfl) shapeCasts_S64x128_S64x128⟩ :: accL L x0 xs0 k (Nat.le_of_succ_le h)

/-- The stores of the first `k` chunks after the accumulator is zeroed, last first. -/
def accZ (L : List (View.Piece (Elt F) S32x512x128 .f32)) (x0 : Vec F S32x512x128 .f32) :
    (k : ℕ) → k ≤ 8 → List (View.Piece (Elt F) S512x128 .f32)
  | 0, _ => [⟨Rect.unit ![0, 0] S512x128.size inb_S512x128_S512x128_0_0, k0_pay12⟩]
  | k + 1, h => ⟨rA k h,
      shapeCast S64x128 (chunk (arg7.view.readCov (accZ L x0 k (Nat.le_of_succ_le h)) (rA k h).toLoadRect)
        (ldH arg1 harg1 x0 k h) (ldW arg12 L k h) 32 le_rfl) shapeCasts_S64x128_S64x128⟩ :: accZ L x0 k (Nat.le_of_succ_le h)

end Cert.KernelIdeal.Hand

end
-- ==== Proof.Value.Weights.lean ====
module

public import proofs.«01_k».proof.Proof.Value.Fold
public import Idealize.ShloMosaic.Lib.Pointwise

/-! The weights, the diagonal entries and the gathered weights of a point, entry by entry. -/

@[expose] public section

set_option maxRecDepth 16384

noncomputable section

namespace Cert.KernelIdeal.Hand

open Cert.KernelIdeal.Gen
open Idealize.ShloMosaic Idealize.ShloMosaic.TcCoe Idealize.ShloMosaic.Tactic

/-- Half lane: which of the two packed rows a lane of the accumulator belongs to. -/
theorem half_lane (r : Fin 512) (l : Fin 128) : k0_pay21 (ix2 r l) = BitVec.ofNat 32 (l.val / 64) := by
  pointwise [k0_pay21]
  revert l; clear r; decide

/-- The lane within the block and the row it belongs to, as words. -/
theorem lane_mod (r : Fin 512) (l : Fin 64) : k0_pay7 (ix2 r l) = BitVec.ofNat 32 (l.val % 32) := by
  pointwise [k0_pay7]
  revert l; clear r; decide

/-- The sum of a doubled row and a lane's half, as a word. -/
theorem row_word (r : Fin 512) (l : Fin 64) : k0_pay6 (ix2 r l) = BitVec.ofNat 32 (2 * r.val + l.val / 32) := by
  have h : k0_pay6 (ix2 r l) = BitVec.ofNat 32 2 * BitVec.ofNat 32 r.val + BitVec.ofNat 32 (l.val / 32) := by
    pointwise [k0_pay6]
    refine congrArg (IntOp.addi (IntOp.muli 2#32 (BitVec.ofNat 32 r.val))) ?_
    revert l; clear r; decide
  rw [h, ← BitVec.ofNat_mul, ← BitVec.ofNat_add]

/-- A lane number below 32 wraps to itself. -/
theorem wrapped (l : Fin 32) : Scalar.select (IntOp.andi (IntOp.xori (IntOp.cmpi CmpIPredicate.slt (BitVec.ofNat 32 l.val) 0#32) (Scalar.cmpi CmpIPredicate.slt 32#32 0#32))
    (IntOp.cmpi CmpIPredicate.ne (BitVec.ofNat 32 l.val) 0#32)) (IntOp.addi (BitVec.ofNat 32 l.val) 32#32) (BitVec.ofNat 32 l.val) = BitVec.ofNat 32 l.val := by
  revert l; decide

/-- The diagonal test of a point: row `2r + l/32` against column `32 i + l%32`. -/
theorem diag_word (i : grid0.Coords) (r : Fin 512) (l : Fin 64) :
    k0_pay9 (Scalar.muli (BitVec.ofNat 32 (i 0)) 32#32) k0_pay6 32#32 k0_pay7 k0_pay8 (ix2 r l)
      = if 2 * r.val + l.val / 32 = 32 * (i 0).val + l.val % 32 then 1#1 else 0#1 := by
  have hi : (i 0).val < 32 := (i 0).isLt
  pointwise [k0_pay9, row_word, lane_mod, k0_pay8]
  rw [wrapped ⟨l.val % 32, by omega⟩]
  rw [show IntOp.addi (Scalar.muli (BitVec.ofNat 32 (i 0).val) 32#32) (BitVec.ofNat 32 (l.val % 32)) = BitVec.ofNat 32 (32 * (i 0).val + l.val % 32) from by
    rw [Nat.mul_comm, BitVec.ofNat_add, BitVec.ofNat_mul]; rfl]
  rw [WordCmp.cmpi_eq_ofNat (by omega) (by omega)]
  by_cases h : 2 * r.val + l.val / 32 = 32 * (i 0).val + l.val % 32 <;> simp only [h, decide_true, decide_false, if_true, if_false] <;> rfl

/-- The lane gather reads lane `q * 32 + n`. -/
theorem gat_word (q : Fin 2) (n : Fin 32) :
    (Scalar.select (IntOp.cmpi CmpIPredicate.slt (IntOp.addi (IntOp.muli (BitVec.ofNat 32 q.val) 32#32) (BitVec.ofNat 32 n.val)) 0#32)
      (IntOp.addi (IntOp.addi (IntOp.muli (BitVec.ofNat 32 q.val) 32#32) (BitVec.ofNat 32 n.val)) 128#32)
      (IntOp.addi (IntOp.muli (BitVec.ofNat 32 q.val) 32#32) (BitVec.ofNat 32 n.val))).toNat % 128 = q.val * 32 + n.val := by
  revert q n; decide

/-- A slab of gathered weights: lane `l` of row `r` reads the weight of column `n` of its half. -/
theorem gat_apply (w : FVec Ideal S512x64 .f32) (n : Fin 32) (r : Fin 512) (l : Fin 128) :
    gat (F := Ideal) (BitVec.ofNat 32 n.val) (muli k0_pay21 k0_pay22) (k0_pay24 w) (ix3 (0 : Fin 1) r l) = w (ix2 r ⟨l.val / 64 * 32 + n.val, by omega⟩) := by
  unfold gat
  pointwise [half_lane, k0_pay22, k0_pay24]
  have h := gat_word ⟨l.val / 64, by omega⟩ n
  simp only at h
  rw [dif_pos (by rw [h]; omega)]
  exact congrArg w (congrArg (ix2 r) (Fin.ext h))

/-- The weights: zero on the diagonal, elsewhere the skip decision, times the instruction pointer. -/
theorem wt_apply (i : grid0.Coords) (X1 : Vec Ideal S1x512x64 .f32) (X2 : Vec Ideal S1x1x32 .f32) (r : Fin 512) (l : Fin 64) :
    wt i X1 X2 (ix2 r l) = (if 2 * r.val + l.val / 32 = 32 * (i 0).val + l.val % 32 then 0 else X1 (ix3 (0 : Fin 1) r l)) * X2 (ix3 (0 : Fin 1) (0 : Fin 1) ⟨l.val % 32, by omega⟩) := by
  unfold wt
  pointwise [k0_pay11, diag_word, k0_pay5, k0_pay4]
  by_cases hd : 2 * r.val + l.val / 32 = 32 * (i 0).val + l.val % 32
  · rw [if_pos hd, if_pos hd, zero_mul]; rfl
  · rw [if_neg hd, if_neg hd]
    refine congrArg (X1 (ix3 0 r l) * ·) ?_
    by_cases h : l.val < 32
    · rw [dif_pos h]; exact congrArg X2 (congrArg (ix3 0 0) (Fin.ext (show l.val = l.val % 32 by omega)))
    · rw [dif_neg h]; exact congrArg X2 (congrArg (ix3 0 0) (Fin.ext (show l.val - 32 = l.val % 32 by omega)))

/-- The diagonal entries of a point's block. -/
theorem dg_apply (i : grid0.Coords) (X1 : Vec Ideal S1x512x64 .f32) (r : Fin 512) (l : Fin 64) :
    dg i X1 (ix2 r l) = if 2 * r.val + l.val / 32 = 32 * (i 0).val + l.val % 32 then X1 (ix3 (0 : Fin 1) r l) else 0 := by
  unfold dg
  pointwise [k0_pay10, diag_word, k0_pay5]
  by_cases hd : 2 * r.val + l.val / 32 = 32 * (i 0).val + l.val % 32
  · rw [if_pos hd, if_pos hd]; rfl
  · rw [if_neg hd, if_neg hd]; rfl

end Cert.KernelIdeal.Hand

end
-- ==== Proof.Value.Blocks.lean ====
module

public import proofs.«01_k».proof.Proof.Ideal.Main
public import proofs.«01_k».proof.Proof.Value.Weights
public import Idealize.ShloMosaic.Lib.Pipeline.Value
public import Idealize.ShloMosaic.Lib.StableHlo.Run

/-! What the first kernel's points read, entry by entry of the arguments. -/

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

/-- The instruction pointer, as launched. -/
abbrev argIp : FVec Ideal S1024 .f32 := m ((c : Thread nD τ).loc main_arg1)
/-- The contexts, as launched. -/
abbrev argHs : FVec Ideal S1024x1024x64 .f32 := m ((c : Thread nD τ).loc main_arg4)
/-- The skip decisions, as launched. -/
abbrev argSd : FVec Ideal S1024x1024 .f32 := m ((c : Thread nD τ).loc main_arg5)

/-- The host's value `v0` before the first call, from the arguments. -/
theorem V1_v0 : V1 m c main_v0 = (shapeCast S1024x512x128 (argHs m c) shapeCasts_S1024x1024x64_S1024x512x128 : FVec Ideal S1024x512x128 .f32) := by
  show StableHlo.after hostOps0 (V0 m c) (Proc.devRef .tc main_v0) = _
  simp only [StableHlo.after_cons, StableHlo.after_nil]
  rfl
/-- The host's value `v3` before the first call, from the arguments. -/
theorem V1_v3 : V1 m c main_v3 = (shapeCast S32x512x64 (transpose S32x512x2x32 [0, 2, 3, 1] (shapeCast S32x32x512x2 (argSd m c) shapeCasts_S1024x1024_S32x32x512x2) transposes_S32x32x512x2_S32x512x2x32_0_2_3_1) shapeCasts_S32x512x2x32_S32x512x64 : FVec Ideal S32x512x64 .f32) := by
  show StableHlo.after hostOps0 (V0 m c) (Proc.devRef .tc main_v3) = _
  simp only [StableHlo.after_cons, StableHlo.after_nil]
  rfl
/-- The host's value `v4` before the first call, from the arguments. -/
theorem V1_v4 : V1 m c main_v4 = (shapeCast S32x1x32 (argIp m c) shapeCasts_S1024_S32x1x32 : FVec Ideal S32x1x32 .f32) := by
  show StableHlo.after hostOps0 (V0 m c) (Proc.devRef .tc main_v4) = _
  simp only [StableHlo.after_cons, StableHlo.after_nil]
  rfl

/-- The host's value `v0` before the first call, read at an index. -/
theorem V1_v0_apply (i : Fin 1024) (r : Fin 512) (l : Fin 128) :
    (V1 m c main_v0 : FVec Ideal S1024x512x128 .f32) (ix3 i r l) = argHs m c (ix3 i (⟨r.val * 2 + l.val / 64, by omega⟩ : Fin 1024) (⟨l.val % 64, by omega⟩ : Fin 64)) := by
  rw [V1_v0]
  pointwise
/-- The host's value `v4` before the first call, read at an index. -/
theorem V1_v4_apply (b : Fin 32) (u : Fin 1) (l : Fin 32) :
    (V1 m c main_v4 : FVec Ideal S32x1x32 .f32) (ix3 b u l) = argIp m c (ix1 (⟨b.val * 32 + l.val, by omega⟩ : Fin 1024)) := by
  rw [V1_v4]
  pointwise
/-- The host's value `v3` before the first call, read at an index. -/
theorem V1_v3_apply (b : Fin 32) (r : Fin 512) (l : Fin 64) :
    (V1 m c main_v3 : FVec Ideal S32x512x64 .f32) (ix3 b r l) = argSd m c (ix2 (⟨b.val * 32 + l.val % 32, by omega⟩ : Fin 1024) (⟨r.val * 2 + l.val / 32, by omega⟩ : Fin 1024)) := by
  rw [V1_v3]
  pointwise

/-- The first call has 32 points. -/
theorem lt32 (t : Fin cfg0.N) : t.val < 32 := t.isLt
/-- A point's coordinate is its number. -/
theorem coords0 : ∀ t : Fin cfg0.N, (grid0.coords t 0).val = t.val := (by decide +kernel : ∀ t : Fin grid0.N, _)
/-- The block window 0 of the first call reads or writes at point `t`. -/
theorem index0_0 : ∀ t : Fin cfg0.N, win0_0.index t (0 : Fin 3) = t.val ∧ win0_0.index t (1 : Fin 3) = 0 ∧ win0_0.index t (2 : Fin 3) = 0 := (by decide +kernel : ∀ t : Fin grid0.N, _)
/-- The block window 1 of the first call reads or writes at point `t`. -/
theorem index0_1 : ∀ t : Fin cfg0.N, win0_1.index t (0 : Fin 3) = t.val ∧ win0_1.index t (1 : Fin 3) = 0 ∧ win0_1.index t (2 : Fin 3) = 0 := (by decide +kernel : ∀ t : Fin grid0.N, _)
/-- The block window 2 of the first call reads or writes at point `t`. -/
theorem index0_2 : ∀ t : Fin cfg0.N, win0_2.index t (0 : Fin 3) = t.val ∧ win0_2.index t (1 : Fin 3) = 0 ∧ win0_2.index t (2 : Fin 3) = 0 := (by decide +kernel : ∀ t : Fin grid0.N, _)

/-- The contexts' block at a point. -/
theorem blk0_0 (t : Fin cfg0.N) (n : Fin 32) (r : Fin 512) (l : Fin 128) :
    iblk0 (bufs1 m) c 0 t (ix3 n r l) = argHs m c (ix3 (⟨t.val * 32 + n.val, by have := lt32 t; omega⟩ : Fin 1024) (⟨r.val * 2 + l.val / 64, by omega⟩ : Fin 1024) (⟨l.val % 64, by omega⟩ : Fin 64)) := by
  have ht := lt32 t
  refine Eq.trans ?_ (V1_v0_apply m c ⟨t.val * 32 + n.val, by omega⟩ r l)
  show V1 m c main_v0 (((cfg0.win 0).blk t).view.emb (ix3 n r l)) = _
  obtain ⟨e0, e1, e2⟩ := index0_0 t
  refine congrArg (V1 m c main_v0) (funext fun a => Fin.ext ?_)
  match a with
  | ⟨0, _⟩ => show win0_0.index t (0 : Fin 3) * 32 + 1 * n.val = t.val * 32 + n.val; omega
  | ⟨1, _⟩ => show win0_0.index t (1 : Fin 3) * 512 + 1 * r.val = r.val; omega
  | ⟨2, _⟩ => show win0_0.index t (2 : Fin 3) * 128 + 1 * l.val = l.val; omega
/-- The skip decisions' block at a point. -/
theorem blk0_1 (t : Fin cfg0.N) (u : Fin 1) (r : Fin 512) (l : Fin 64) :
    iblk0 (bufs1 m) c 1 t (ix3 u r l) = argSd m c (ix2 (⟨t.val * 32 + l.val % 32, by have := lt32 t; omega⟩ : Fin 1024) (⟨r.val * 2 + l.val / 32, by omega⟩ : Fin 1024)) := by
  have ht := lt32 t
  refine Eq.trans ?_ (V1_v3_apply m c ⟨t.val, ht⟩ r l)
  show V1 m c main_v3 (((cfg0.win 1).blk t).view.emb (ix3 u r l)) = _
  obtain ⟨e0, e1, e2⟩ := index0_1 t
  refine congrArg (V1 m c main_v3) (funext fun a => Fin.ext ?_)
  match a with
  | ⟨0, _⟩ => show win0_1.index t (0 : Fin 3) * 1 + 1 * u.val = t.val; omega
  | ⟨1, _⟩ => show win0_1.index t (1 : Fin 3) * 512 + 1 * r.val = r.val; omega
  | ⟨2, _⟩ => show win0_1.index t (2 : Fin 3) * 64 + 1 * l.val = l.val; omega
/-- The instruction pointers' block at a point. -/
theorem blk0_2 (t : Fin cfg0.N) (u v : Fin 1) (l : Fin 32) :
    iblk0 (bufs1 m) c 2 t (ix3 u v l) = argIp m c (ix1 (⟨t.val * 32 + l.val, by have := lt32 t; omega⟩ : Fin 1024)) := by
  have ht := lt32 t
  refine Eq.trans ?_ (V1_v4_apply m c ⟨t.val, ht⟩ v l)
  show V1 m c main_v4 (((cfg0.win 2).blk t).view.emb (ix3 u v l)) = _
  obtain ⟨e0, e1, e2⟩ := index0_2 t
  refine congrArg (V1 m c main_v4) (funext fun a => Fin.ext ?_)
  match a with
  | ⟨0, _⟩ => show win0_2.index t (0 : Fin 3) * 1 + 1 * u.val = t.val; omega
  | ⟨1, _⟩ => show win0_2.index t (1 : Fin 3) * 1 + 1 * v.val = v.val; omega
  | ⟨2, _⟩ => show win0_2.index t (2 : Fin 3) * 32 + 1 * l.val = l.val; omega

end Cert.KernelIdeal.Hand

end
-- ==== Proof.Value.Pieces.lean ====
module

public import proofs.«01_k».proof.Proof.Value.Fold

/-! The stores the runs of the first kernel's body found are the recursions of the module before. -/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

section Slabs

variable (c : Dev nD) (i : grid0.Coords) (arg2 : Memref sig .tc .vmem S1x512x64 .f32) (harg2 : arg2.IsWhole)
  (arg3 : Memref sig .tc .vmem S1x1x32 .f32) (harg3 : arg3.IsWhole) (x1 : Vec F S1x512x64 .f32) (x2 : Vec F S1x1x32 .f32)

/-- The load of the whole block of skip decisions. -/
abbrev ld1 : Vec F S1x512x64 .f32 := View.readAt (Elt F) arg2.view (Rect.unit (s := S1x512x64) ![0, 0, 0] S1x512x64.size inb_S1x512x64_S1x512x64_0_0_0).toLoadRect (harg2.unread x1)
/-- The load of the whole block of the instruction pointer. -/
abbrev ld2 : Vec F S1x1x32 .f32 := View.readAt (Elt F) arg3.view (Rect.unit (s := S1x1x32) ![0, 0, 0] S1x1x32.size inb_S1x1x32_S1x1x32_0_0_0).toLoadRect (harg3.unread x2)

/-- The gathered slabs at the first point. -/
theorem slabs_A : kernelRun0_A.sl.HS5_32 c i arg2 harg2 arg3 harg3 x1 x2
    = gatL (muli k0_pay21 k0_pay22) (k0_pay24 (wt i (ld1 arg2 harg2 x1) (ld2 arg3 harg3 x2))) 32 le_rfl := by sl_kernel_rfl
/-- The gathered slabs at a middle point. -/
theorem slabs_B : kernelRun0_B.sl.HS5_32 c i arg2 harg2 arg3 harg3 x1 x2
    = gatL (muli k0_pay21 k0_pay22) (k0_pay24 (wt i (ld1 arg2 harg2 x1) (ld2 arg3 harg3 x2))) 32 le_rfl := by sl_kernel_rfl
/-- The gathered slabs at the last point. -/
theorem slabs_C : kernelRun0_C.sl.HS5_32 c i arg2 harg2 arg3 harg3 x1 x2
    = gatL (muli k0_pay21 k0_pay22) (k0_pay24 (wt i (ld1 arg2 harg2 x1) (ld2 arg3 harg3 x2))) 32 le_rfl := by sl_kernel_rfl

end Slabs

variable (c : Dev nD) (t : Fin cfg0.N) (x0 : Vec F S32x512x128 .f32) (x1 : Vec F S1x512x64 .f32) (x2 : Vec F S1x1x32 .f32) (s : Carry F)

/-- The accumulator's stores at a middle point. -/
theorem accs_B (h0 : ¬cond0_0 (grid0.coords t)) (h1 : ¬cond0_1 (grid0.coords t)) :
    (runB c t h0 h1 x0 x1 x2 s).2.2.2.1
      = accL (ms0_0 t) (hs0_0 t) scM0_0 (Memref.isWhole_whole _) scM0_5 (kernelRun0_B.sl.HS5_32 c (grid0.coords t) (ms0_1 t) (hs0_1 t) (ms0_2 t) (hs0_2 t) x1 x2) x0 s.1 8 le_rfl := by sl_kernel_rfl
/-- The accumulator's stores at the last point. -/
theorem accs_C (h0 : ¬cond0_0 (grid0.coords t)) (h1 : cond0_1 (grid0.coords t)) :
    (runC c t h0 h1 x0 x1 x2 s).2.2.2.1
      = accL (ms0_0 t) (hs0_0 t) scM0_0 (Memref.isWhole_whole _) scM0_5 (kernelRun0_C.sl.HS5_32 c (grid0.coords t) (ms0_1 t) (hs0_1 t) (ms0_2 t) (hs0_2 t) x1 x2) x0 s.1 8 le_rfl := by sl_kernel_rfl
/-- The accumulator's stores at the first point. -/
theorem accs_A (h0 : cond0_0 (grid0.coords t)) (h1 : ¬cond0_1 (grid0.coords t)) :
    (runA c t h0 h1 x0 x1 x2).2.2.2.1
      = accZ (ms0_0 t) (hs0_0 t) scM0_0 scM0_5 (kernelRun0_A.sl.HS5_32 c (grid0.coords t) (ms0_1 t) (hs0_1 t) (ms0_2 t) (hs0_2 t) x1 x2) x0 8 le_rfl := by sl_kernel_rfl

end Cert.KernelIdeal.Hand

end
-- ==== Proof.Value.Sums.lean ====
module

public import proofs.«01_k».proof.Proof.Value.Pieces

/-! The stores the runs of the first kernel's body found into the column sums and the outputs. -/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable (c : Dev nD) (t : Fin cfg0.N) (x0 : Vec F S32x512x128 .f32) (x1 : Vec F S1x512x64 .f32) (x2 : Vec F S1x1x32 .f32) (s : Carry F)

/-- A column of the sums, whole. -/
abbrev rS : Rect S512x1 := Rect.unit (s := S512x1) ![0, 0] S512x1.size inb_S512x1_S512x1_0_0
/-- The accumulator, whole. -/
abbrev rAll : Rect S512x128 := Rect.unit (s := S512x128) ![0, 0] S512x128.size inb_S512x128_S512x128_0_0
/-- A pair of columns, whole. -/
abbrev rTwo : Rect S512x2 := Rect.unit (s := S512x2) ![0, 0] S512x2.size inb_S512x2_S512x2_0_0

/-- A column of sums plus a point's weights of the even rows. -/
def stE (i : grid0.Coords) (X1 : Vec F S1x512x64 .f32) (X2 : Vec F S1x1x32 .f32) (z : Vec F S512x1 .f32) : FVec F S512x1 .f32 :=
  k0_pay17 (Scalar.muli (BitVec.ofNat 32 (i 0)) 32#32) (k0_pay4 X2) (k0_pay5 X1) k0_pay6 32#32 k0_pay7 k0_pay8 z
/-- A column of sums plus a point's weights of the odd rows. -/
def stO (i : grid0.Coords) (X1 : Vec F S1x512x64 .f32) (X2 : Vec F S1x1x32 .f32) (z : Vec F S512x1 .f32) : FVec F S512x1 .f32 :=
  k0_pay18 (Scalar.muli (BitVec.ofNat 32 (i 0)) 32#32) (k0_pay4 X2) (k0_pay5 X1) k0_pay6 32#32 k0_pay7 k0_pay8 z
/-- A column of sums plus a point's diagonal entries of the even rows. -/
def stDE (i : grid0.Coords) (X1 : Vec F S1x512x64 .f32) (X2 : Vec F S1x1x32 .f32) (z : Vec F S512x1 .f32) : FVec F S512x1 .f32 := k0_pay19 (dg i X1) z
/-- A column of sums plus a point's diagonal entries of the odd rows. -/
def stDO (i : grid0.Coords) (X1 : Vec F S1x512x64 .f32) (X2 : Vec F S1x1x32 .f32) (z : Vec F S512x1 .f32) : FVec F S512x1 .f32 := k0_pay20 (dg i X1) z

/-- The first point's stores into scratch 1. -/
theorem sumsA_1 (h0 : cond0_0 (grid0.coords t)) (h1 : ¬cond0_1 (grid0.coords t)) :
    (runA c t h0 h1 x0 x1 x2).2.2.2.2.1
      = ⟨rS, stE (grid0.coords t) (ld1 (ms0_1 t) (hs0_1 t) x1) (ld2 (ms0_2 t) (hs0_2 t) x2) (scM0_1.view.readCov [(⟨rS, k0_pay13⟩ : View.Piece (Elt F) S512x1 .f32)] rS.toLoadRect)⟩ :: [⟨rS, k0_pay13⟩] := by sl_kernel_rfl

/-- The first point's stores into scratch 2. -/
theorem sumsA_2 (h0 : cond0_0 (grid0.coords t)) (h1 : ¬cond0_1 (grid0.coords t)) :
    (runA c t h0 h1 x0 x1 x2).2.2.2.2.2.1
      = ⟨rS, stO (grid0.coords t) (ld1 (ms0_1 t) (hs0_1 t) x1) (ld2 (ms0_2 t) (hs0_2 t) x2) (scM0_2.view.readCov [(⟨rS, k0_pay14⟩ : View.Piece (Elt F) S512x1 .f32)] rS.toLoadRect)⟩ :: [⟨rS, k0_pay14⟩] := by sl_kernel_rfl

/-- The first point's stores into scratch 3. -/
theorem sumsA_3 (h0 : cond0_0 (grid0.coords t)) (h1 : ¬cond0_1 (grid0.coords t)) :
    (runA c t h0 h1 x0 x1 x2).2.2.2.2.2.2.1
      = ⟨rS, stDE (grid0.coords t) (ld1 (ms0_1 t) (hs0_1 t) x1) (ld2 (ms0_2 t) (hs0_2 t) x2) (scM0_3.view.readCov [(⟨rS, k0_pay15⟩ : View.Piece (Elt F) S512x1 .f32)] rS.toLoadRect)⟩ :: [⟨rS, k0_pay15⟩] := by sl_kernel_rfl

/-- The first point's stores into scratch 4. -/
theorem sumsA_4 (h0 : cond0_0 (grid0.coords t)) (h1 : ¬cond0_1 (grid0.coords t)) :
    (runA c t h0 h1 x0 x1 x2).2.2.2.2.2.2.2.1
      = ⟨rS, stDO (grid0.coords t) (ld1 (ms0_1 t) (hs0_1 t) x1) (ld2 (ms0_2 t) (hs0_2 t) x2) (scM0_4.view.readCov [(⟨rS, k0_pay16⟩ : View.Piece (Elt F) S512x1 .f32)] rS.toLoadRect)⟩ :: [⟨rS, k0_pay16⟩] := by sl_kernel_rfl

/-- The middle point's stores into scratch 1. -/
theorem sumsB_1 (h0 : ¬cond0_0 (grid0.coords t)) (h1 : ¬cond0_1 (grid0.coords t)) :
    (runB c t h0 h1 x0 x1 x2 s).2.2.2.2.1
      = ⟨rS, stE (grid0.coords t) (ld1 (ms0_1 t) (hs0_1 t) x1) (ld2 (ms0_2 t) (hs0_2 t) x2) (View.readAt (Elt F) scM0_1.view rS.toLoadRect ((Memref.isWhole_whole (sig := sig) _ : scM0_1.IsWhole).unread s.2.1))⟩ :: [] := by sl_kernel_rfl

/-- The middle point's stores into scratch 2. -/
theorem sumsB_2 (h0 : ¬cond0_0 (grid0.coords t)) (h1 : ¬cond0_1 (grid0.coords t)) :
    (runB c t h0 h1 x0 x1 x2 s).2.2.2.2.2.1
      = ⟨rS, stO (grid0.coords t) (ld1 (ms0_1 t) (hs0_1 t) x1) (ld2 (ms0_2 t) (hs0_2 t) x2) (View.readAt (Elt F) scM0_2.view rS.toLoadRect ((Memref.isWhole_whole (sig := sig) _ : scM0_2.IsWhole).unread s.2.2.1))⟩ :: [] := by sl_kernel_rfl

/-- The middle point's stores into scratch 3. -/
theorem sumsB_3 (h0 : ¬cond0_0 (grid0.coords t)) (h1 : ¬cond0_1 (grid0.coords t)) :
    (runB c t h0 h1 x0 x1 x2 s).2.2.2.2.2.2.1
      = ⟨rS, stDE (grid0.coords t) (ld1 (ms0_1 t) (hs0_1 t) x1) (ld2 (ms0_2 t) (hs0_2 t) x2) (View.readAt (Elt F) scM0_3.view rS.toLoadRect ((Memref.isWhole_whole (sig := sig) _ : scM0_3.IsWhole).unread s.2.2.2.1))⟩ :: [] := by sl_kernel_rfl

/-- The middle point's stores into scratch 4. -/
theorem sumsB_4 (h0 : ¬cond0_0 (grid0.coords t)) (h1 : ¬cond0_1 (grid0.coords t)) :
    (runB c t h0 h1 x0 x1 x2 s).2.2.2.2.2.2.2.1
      = ⟨rS, stDO (grid0.coords t) (ld1 (ms0_1 t) (hs0_1 t) x1) (ld2 (ms0_2 t) (hs0_2 t) x2) (View.readAt (Elt F) scM0_4.view rS.toLoadRect ((Memref.isWhole_whole (sig := sig) _ : scM0_4.IsWhole).unread s.2.2.2.2))⟩ :: [] := by sl_kernel_rfl

/-- The last point's stores into scratch 1. -/
theorem sumsC_1 (h0 : ¬cond0_0 (grid0.coords t)) (h1 : cond0_1 (grid0.coords t)) :
    (runC c t h0 h1 x0 x1 x2 s).2.2.2.2.1
      = ⟨rS, stE (grid0.coords t) (ld1 (ms0_1 t) (hs0_1 t) x1) (ld2 (ms0_2 t) (hs0_2 t) x2) (View.readAt (Elt F) scM0_1.view rS.toLoadRect ((Memref.isWhole_whole (sig := sig) _ : scM0_1.IsWhole).unread s.2.1))⟩ :: [] := by sl_kernel_rfl

/-- The last point's stores into scratch 2. -/
theorem sumsC_2 (h0 : ¬cond0_0 (grid0.coords t)) (h1 : cond0_1 (grid0.coords t)) :
    (runC c t h0 h1 x0 x1 x2 s).2.2.2.2.2.1
      = ⟨rS, stO (grid0.coords t) (ld1 (ms0_1 t) (hs0_1 t) x1) (ld2 (ms0_2 t) (hs0_2 t) x2) (View.readAt (Elt F) scM0_2.view rS.toLoadRect ((Memref.isWhole_whole (sig := sig) _ : scM0_2.IsWhole).unread s.2.2.1))⟩ :: [] := by sl_kernel_rfl

/-- The last point's stores into scratch 3. -/
theorem sumsC_3 (h0 : ¬cond0_0 (grid0.coords t)) (h1 : cond0_1 (grid0.coords t)) :
    (runC c t h0 h1 x0 x1 x2 s).2.2.2.2.2.2.1
      = ⟨rS, stDE (grid0.coords t) (ld1 (ms0_1 t) (hs0_1 t) x1) (ld2 (ms0_2 t) (hs0_2 t) x2) (View.readAt (Elt F) scM0_3.view rS.toLoadRect ((Memref.isWhole_whole (sig := sig) _ : scM0_3.IsWhole).unread s.2.2.2.1))⟩ :: [] := by sl_kernel_rfl

/-- The last point's stores into scratch 4. -/
theorem sumsC_4 (h0 : ¬cond0_0 (grid0.coords t)) (h1 : cond0_1 (grid0.coords t)) :
    (runC c t h0 h1 x0 x1 x2 s).2.2.2.2.2.2.2.1
      = ⟨rS, stDO (grid0.coords t) (ld1 (ms0_1 t) (hs0_1 t) x1) (ld2 (ms0_2 t) (hs0_2 t) x2) (View.readAt (Elt F) scM0_4.view rS.toLoadRect ((Memref.isWhole_whole (sig := sig) _ : scM0_4.IsWhole).unread s.2.2.2.2))⟩ :: [] := by sl_kernel_rfl

/-- The last point's store of the first output. -/
theorem outsC_3 (h0 : ¬cond0_0 (grid0.coords t)) (h1 : cond0_1 (grid0.coords t)) :
    (runC c t h0 h1 x0 x1 x2 s).1 = [⟨rAll, scM0_0.view.readCov (runC c t h0 h1 x0 x1 x2 s).2.2.2.1 rAll.toLoadRect⟩] := by sl_kernel_rfl
/-- The last point's store of the second output. -/
theorem outsC_4 (h0 : ¬cond0_0 (grid0.coords t)) (h1 : cond0_1 (grid0.coords t)) :
    (runC c t h0 h1 x0 x1 x2 s).2.1 = [⟨rTwo, k0_pay2 (scM0_1.view.readCov (runC c t h0 h1 x0 x1 x2 s).2.2.2.2.1 rS.toLoadRect) (scM0_2.view.readCov (runC c t h0 h1 x0 x1 x2 s).2.2.2.2.2.1 rS.toLoadRect)⟩] := by sl_kernel_rfl
/-- The last point's store of the third output. -/
theorem outsC_5 (h0 : ¬cond0_0 (grid0.coords t)) (h1 : cond0_1 (grid0.coords t)) :
    (runC c t h0 h1 x0 x1 x2 s).2.2.1 = [⟨rTwo, k0_pay3 (scM0_3.view.readCov (runC c t h0 h1 x0 x1 x2 s).2.2.2.2.2.2.1 rS.toLoadRect) (scM0_4.view.readCov (runC c t h0 h1 x0 x1 x2 s).2.2.2.2.2.2.2.1 rS.toLoadRect)⟩] := by sl_kernel_rfl

end Cert.KernelIdeal.Hand

end
-- ==== Proof.Value.Chunks.lean ====
module

public import proofs.«01_k».proof.Proof.Value.Weights
public import Idealize.ShloMosaic.Lib.Pipeline.Value
public import Idealize.ShloMosaic.Lib.Pipeline.ValueKit.Tiles

/-! What the stores of the first kernel's body leave in the accumulator, entry by entry. -/

@[expose] public section

set_option maxRecDepth 16384

noncomputable section

namespace Cert.KernelIdeal.Hand

open Cert.KernelIdeal.Gen
open Idealize.ShloMosaic Idealize.ShloMosaic.TcCoe Idealize.ShloMosaic.Tactic

/-- A chunk accumulated over `n` slabs adds the slabs' products. -/
theorem chunk_apply (a : FVec Ideal S64x128 .f32) (H W : (n : ℕ) → n < 32 → Vec Ideal S1x64x128 .f32) (r : Fin 64) (l : Fin 128) :
    (n : ℕ) → (h : n ≤ 32) → chunk a H W n h (ix2 r l)
      = a (ix2 r l) + ∑ k : Fin n, (H k (lt_of_lt_of_le k.isLt h) (ix3 (0 : Fin 1) r l) * W k (lt_of_lt_of_le k.isLt h) (ix3 (0 : Fin 1) r l) : EReal)
  | 0, _ => by rw [Fin.sum_univ_zero, add_zero]; rfl
  | n + 1, h => by
    rw [Fin.sum_univ_castSucc, ← add_assoc]
    unfold chunk
    pointwise [chunk_apply a H W r l n (Nat.le_of_succ_le h)]
    rfl

/-- The slabs of gathered weights stored so far, entry by entry. -/
theorem canon_gatL (w : FVec Ideal S512x64 .f32) (k : Fin 32) (r : Fin 512) (l : Fin 128) :
    (n : ℕ) → (h : n ≤ 32) → k.val < n → View.canon (gatL (muli k0_pay21 k0_pay22) (k0_pay24 w) n h) (ix3 k r l)
      = w (ix2 r ⟨l.val / 64 * 32 + k.val, by omega⟩)
  | 0, _, hk => absurd hk (Nat.not_lt_zero _)
  | n + 1, h, hk => by
    unfold gatL
    by_cases e : k.val = n
    · subst e
      have hy : (ix3 k r l : S32x512x128.Idx) = (rW k.val h).emb (ix3 (0 : Fin 1) r l) := by
        funext a; match a with
        | ⟨0, _⟩ => exact Fin.ext (show k.val = k.val + 1 * 0 by omega)
        | ⟨1, _⟩ => exact Fin.ext (show r.val = 0 + 1 * r.val by omega)
        | ⟨2, _⟩ => exact Fin.ext (show l.val = 0 + 1 * l.val by omega)
      rw [hy, View.canon_cons_emb]
      exact gat_apply w k r l
    · rw [View.canon_cons_of_not_mem]
      · exact canon_gatL w k r l n (Nat.le_of_succ_le h) (by omega)
      · intro hm
        have := (Rect.mem_set_unit (inb := inbW n h)).mp hm 0
        have h1 : n ≤ k.val ∧ k.val < n + 1 := this
        omega

section Loads

variable (arg1 : Memref sig .tc .vmem S32x512x128 .f32) (harg1 : arg1.IsWhole) (arg7 : Memref sig .tc .vmem S512x128 .f32) (harg7 : arg7.IsWhole)
  (arg12 : Memref sig .tc .vmem S32x512x128 .f32)

/-- The load of slab `n` at chunk `k`, entry by entry. -/
theorem ldH_apply (x0 : Vec Ideal S32x512x128 .f32) (k : ℕ) (hk : k < 8) (n : ℕ) (hn : n < 32) (r : Fin 64) (l : Fin 128) :
    ldH arg1 harg1 x0 k hk n hn (ix3 (0 : Fin 1) r l) = x0 (ix3 (⟨n, hn⟩ : Fin 32) (⟨64 * k + r.val, by omega⟩ : Fin 512) l) := by
  unfold ldH
  rw [View.readAt_eq_ld, harg1.read_unread]
  refine View.ld_unit_apply_of _ _ _ _ _ _ fun a => ?_
  match a with
  | ⟨0, _⟩ => rfl
  | ⟨1, _⟩ => rfl
  | ⟨2, _⟩ => exact (Nat.zero_add _).symm

/-- The load of slab `n` of the gathered weights at chunk `k`, entry by entry. -/
theorem ldW_apply (w : FVec Ideal S512x64 .f32) (k : ℕ) (hk : k < 8) (n : ℕ) (hn : n < 32) (r : Fin 64) (l : Fin 128) :
    ldW arg12 (gatL (muli k0_pay21 k0_pay22) (k0_pay24 w) 32 le_rfl) k hk n hn (ix3 (0 : Fin 1) r l)
      = w (ix2 (⟨64 * k + r.val, by omega⟩ : Fin 512) ⟨l.val / 64 * 32 + n, by omega⟩) := by
  unfold ldW
  rw [View.readCov_eq_canon']
  have hy : (rH k hk n hn).toLoadRect.idx (ix3 (0 : Fin 1) r l) = (ix3 (⟨n, hn⟩ : Fin 32) (⟨64 * k + r.val, by omega⟩ : Fin 512) l : S32x512x128.Idx) := by
    funext a; match a with
    | ⟨0, _⟩ => exact Fin.ext (show n + 1 * 0 = n by omega)
    | ⟨1, _⟩ => exact Fin.ext (show 64 * k + 1 * r.val = 64 * k + r.val by omega)
    | ⟨2, _⟩ => exact Fin.ext (show 0 + 1 * l.val = l.val by omega)
  show View.canon _ ((rH k hk n hn).toLoadRect.idx (ix3 (0 : Fin 1) r l)) = _
  rw [hy]
  exact canon_gatL w ⟨n, hn⟩ _ l 32 le_rfl hn

/-- What a point adds to row `r`, lane `l` of the accumulator. -/
def adds (x0 : Vec Ideal S32x512x128 .f32) (w : FVec Ideal S512x64 .f32) (r : Fin 512) (l : Fin 128) : EReal :=
  ∑ n : Fin 32, (x0 (ix3 n r l) * w (ix2 r ⟨l.val / 64 * 32 + n.val, by omega⟩) : EReal)

/-- One chunk of the accumulator gains its part of the product. -/
theorem chunk_adds (a : FVec Ideal S64x128 .f32) (x0 : Vec Ideal S32x512x128 .f32) (w : FVec Ideal S512x64 .f32) (k : ℕ) (hk : k < 8) (r : Fin 64) (l : Fin 128) :
    chunk a (ldH arg1 harg1 x0 k hk) (ldW arg12 (gatL (muli k0_pay21 k0_pay22) (k0_pay24 w) 32 le_rfl) k hk) 32 le_rfl (ix2 r l)
      = (a (ix2 r l) + adds x0 w ⟨64 * k + r.val, by omega⟩ l : EReal) := by
  rw [chunk_apply]
  refine congrArg (_ + ·) (Finset.sum_congr rfl fun n _ => ?_)
  rw [ldH_apply, ldW_apply]

/-- Where a chunk's rows lie in the accumulator. -/
theorem rA_emb (k : ℕ) (hk : k < 8) (r : Fin 64) (l : Fin 128) :
    (rA k hk).emb (ix2 r l) = (ix2 (⟨64 * k + r.val, by omega⟩ : Fin 512) l : S512x128.Idx) := by
  funext a; match a with
  | ⟨0, _⟩ => exact Fin.ext (show 64 * k + 1 * r.val = 64 * k + r.val by omega)
  | ⟨1, _⟩ => exact Fin.ext (show 0 + 1 * l.val = l.val by omega)

/-- Rows outside a chunk are not in it. -/
theorem not_mem_rA (k : ℕ) (hk : k < 8) (r : Fin 512) (l : Fin 128) (h : r.val < 64 * k ∨ 64 * k + 64 ≤ r.val) :
    (ix2 r l : S512x128.Idx) ∉ (rA k hk).set := by
  intro hm
  have := (Rect.mem_set_unit (inb := inbA k hk)).mp hm 0
  have h1 : 64 * k ≤ r.val ∧ r.val < 64 * k + 64 := this
  omega

/-- The chunks stored so far over a carried accumulator add to it. -/
theorem canon_accL (x0 : Vec Ideal S32x512x128 .f32) (xs0 : Vec Ideal S512x128 .f32) (w : FVec Ideal S512x64 .f32) (r : Fin 512) (l : Fin 128) :
    (k : ℕ) → (h : k ≤ 8) → r.val < 64 * k →
    View.canon (accL arg1 harg1 arg7 harg7 arg12 (gatL (muli k0_pay21 k0_pay22) (k0_pay24 w) 32 le_rfl) x0 xs0 k h) (ix2 r l)
      = (xs0 (ix2 r l) + adds x0 w r l : EReal)
  | 0, _, hk => absurd hk (by omega)
  | k + 1, h, hk => by
    unfold accL
    by_cases e : 64 * k ≤ r.val
    · obtain ⟨q, hq⟩ : ∃ q : Fin 64, r = ⟨64 * k + q.val, by omega⟩ := ⟨⟨r.val - 64 * k, by omega⟩, Fin.ext (show r.val = 64 * k + (r.val - 64 * k) by omega)⟩
      rw [hq, ← rA_emb k h q l, View.canon_cons_emb, shapeCast_self, chunk_adds]
      refine congrArg (· + _) ?_
      rw [View.readAt_eq_ld, harg7.read_unread]
      rfl
    · rw [View.canon_cons_of_not_mem]
      swap; · exact not_mem_rA k h r l (Or.inl (by omega))
      exact canon_accL x0 xs0 w r l k (Nat.le_of_succ_le h) (by omega)

/-- The accumulator past the chunks stored so far is still zero. -/
theorem canon_accZ_zero (x0 : Vec Ideal S32x512x128 .f32) (w : FVec Ideal S512x64 .f32) (r : Fin 512) (l : Fin 128) :
    (k : ℕ) → (h : k ≤ 8) → 64 * k ≤ r.val →
    View.canon (accZ arg1 harg1 arg7 arg12 (gatL (muli k0_pay21 k0_pay22) (k0_pay24 w) 32 le_rfl) x0 k h) (ix2 r l) = (0 : EReal)
  | 0, _, _ => by
    unfold accZ
    rw [View.canon_unit_zero (by funext a; match a with | ⟨0, _⟩ => rfl | ⟨1, _⟩ => rfl)]
    pointwise [k0_pay12]
  | k + 1, h, hk => by
    unfold accZ
    rw [View.canon_cons_of_not_mem]
    swap; · exact not_mem_rA k h r l (Or.inr (by omega))
    exact canon_accZ_zero x0 w r l k (Nat.le_of_succ_le h) (by omega)

/-- The chunks stored so far after the accumulator was zeroed hold the sums. -/
theorem canon_accZ (x0 : Vec Ideal S32x512x128 .f32) (w : FVec Ideal S512x64 .f32) (r : Fin 512) (l : Fin 128) :
    (k : ℕ) → (h : k ≤ 8) → r.val < 64 * k →
    View.canon (accZ arg1 harg1 arg7 arg12 (gatL (muli k0_pay21 k0_pay22) (k0_pay24 w) 32 le_rfl) x0 k h) (ix2 r l) = adds x0 w r l
  | 0, _, hk => absurd hk (by omega)
  | k + 1, h, hk => by
    unfold accZ
    by_cases e : 64 * k ≤ r.val
    · obtain ⟨q, hq⟩ : ∃ q : Fin 64, r = ⟨64 * k + q.val, by omega⟩ := ⟨⟨r.val - 64 * k, by omega⟩, Fin.ext (show r.val = 64 * k + (r.val - 64 * k) by omega)⟩
      rw [hq, ← rA_emb k h q l, View.canon_cons_emb, shapeCast_self, chunk_adds, View.readCov_eq_canon']
      refine (congrArg (fun z : EReal => z + adds x0 w ⟨64 * k + q.val, by omega⟩ l) ?_).trans (zero_add _)
      refine (congrArg (View.canon _) (rA_emb k h q l)).trans ?_
      exact canon_accZ_zero _ _ _ _ _ _ _ _ _ _ (Nat.le_add_right _ _)
    · rw [View.canon_cons_of_not_mem]
      swap; · exact not_mem_rA k h r l (Or.inl (by omega))
      exact canon_accZ x0 w r l k (Nat.le_of_succ_le h) (by omega)

end Loads

end Cert.KernelIdeal.Hand

end
-- ==== Proof.Value.Cols.lean ====
module

public import proofs.«01_k».proof.Proof.Value.Sums
public import proofs.«01_k».proof.Proof.Value.Chunks

/-! What a point of the first kernel adds to the accumulator and to the four columns of sums, entry by entry. -/

@[expose] public section

set_option maxRecDepth 16384

noncomputable section

namespace Cert.KernelIdeal.Hand

open Cert.KernelIdeal.Gen
open Idealize.ShloMosaic Idealize.ShloMosaic.TcCoe Idealize.ShloMosaic.Tactic

/-- The sum of a row's 32 entries from lane `32 q` on. -/
def lanes (w : FVec Ideal S512x64 .f32) (q : Fin 2) (r : Fin 512) : EReal := ∑ l : Fin 32, w (ix2 r ⟨32 * q.val + l.val, by omega⟩)

/-- The column of sums gains the row's entries. -/
theorem stE_apply (i : grid0.Coords) (X1 : Vec Ideal S1x512x64 .f32) (X2 : Vec Ideal S1x1x32 .f32) (z : Vec Ideal S512x1 .f32) (r : Fin 512) (u : Fin 1) :
    stE i X1 X2 z (ix2 r u) = z (ix2 r u) + lanes (wt i X1 X2) 0 r := by
  obtain rfl : u = 0 := Subsingleton.elim _ _
  unfold stE lanes wt
  pointwise [k0_pay17]

/-- The column of sums gains the row's entries. -/
theorem stO_apply (i : grid0.Coords) (X1 : Vec Ideal S1x512x64 .f32) (X2 : Vec Ideal S1x1x32 .f32) (z : Vec Ideal S512x1 .f32) (r : Fin 512) (u : Fin 1) :
    stO i X1 X2 z (ix2 r u) = z (ix2 r u) + lanes (wt i X1 X2) 1 r := by
  obtain rfl : u = 0 := Subsingleton.elim _ _
  unfold stO lanes wt
  pointwise [k0_pay18]

/-- The column of sums gains the row's entries. -/
theorem stDE_apply (i : grid0.Coords) (X1 : Vec Ideal S1x512x64 .f32) (X2 : Vec Ideal S1x1x32 .f32) (z : Vec Ideal S512x1 .f32) (r : Fin 512) (u : Fin 1) :
    stDE i X1 X2 z (ix2 r u) = z (ix2 r u) + lanes (dg i X1) 0 r := by
  obtain rfl : u = 0 := Subsingleton.elim _ _
  unfold stDE lanes
  pointwise [k0_pay19]

/-- The column of sums gains the row's entries. -/
theorem stDO_apply (i : grid0.Coords) (X1 : Vec Ideal S1x512x64 .f32) (X2 : Vec Ideal S1x1x32 .f32) (z : Vec Ideal S512x1 .f32) (r : Fin 512) (u : Fin 1) :
    stDO i X1 X2 z (ix2 r u) = z (ix2 r u) + lanes (dg i X1) 1 r := by
  obtain rfl : u = 0 := Subsingleton.elim _ _
  unfold stDO lanes
  pointwise [k0_pay20]

/-- The zero offsets. -/
theorem off2 : (![0, 0] : Fin 2 → ℕ) = fun _ => 0 := by funext a; fin_cases a <;> rfl
/-- The zero offsets. -/
theorem off3 : (![0, 0, 0] : Fin 3 → ℕ) = fun _ => 0 := by funext a; fin_cases a <;> rfl

/-- The block of skip decisions a point reads is the buffer's. -/
theorem ld1_eq (arg2 : Memref sig .tc .vmem S1x512x64 .f32) (harg2 : arg2.IsWhole) (x1 : Vec Ideal S1x512x64 .f32) : ld1 arg2 harg2 x1 = x1 := by
  unfold ld1
  rw [View.readAt_eq_ld, harg2.read_unread]
  exact View.ld_unit_zero off3 _ _
/-- The block of instruction pointers a point reads is the buffer's. -/
theorem ld2_eq (arg3 : Memref sig .tc .vmem S1x1x32 .f32) (harg3 : arg3.IsWhole) (x2 : Vec Ideal S1x1x32 .f32) : ld2 arg3 harg3 x2 = x2 := by
  unfold ld2
  rw [View.readAt_eq_ld, harg3.read_unread]
  exact View.ld_unit_zero off3 _ _

section Points

variable (c : Dev nD) (t : Fin cfg0.N) (x0 : Vec Ideal S32x512x128 .f32) (x1 : Vec Ideal S1x512x64 .f32) (x2 : Vec Ideal S1x1x32 .f32) (s : Carry Ideal)

/-- What the first point leaves in the accumulator. -/
theorem carryA_0 (h0 : cond0_0 (grid0.coords t)) (h1 : ¬cond0_1 (grid0.coords t)) (r : Fin 512) (l : Fin 128) :
    (carryA c t h0 h1 x0 x1 x2).1 (ix2 r l) = adds x0 (wt (grid0.coords t) x1 x2) r l := by
  unfold carryA
  dsimp only
  rw [accs_A, slabs_A, ld1_eq, ld2_eq]
  exact canon_accZ _ _ _ _ x0 _ r l 8 le_rfl (by omega)

/-- What the first point leaves in scratch 1. -/
theorem carryA_1 (h0 : cond0_0 (grid0.coords t)) (h1 : ¬cond0_1 (grid0.coords t)) (r : Fin 512) (u : Fin 1) :
    (carryA c t h0 h1 x0 x1 x2).2.1 (ix2 r u) = lanes (wt (grid0.coords t) x1 x2) 0 r := by
  unfold carryA
  dsimp only
  rw [sumsA_1, View.canon_cons_unit_zero off2, stE_apply, ld1_eq, ld2_eq]
  rw [View.readCov_unit_zero _ off2]
  refine (congrArg (fun z : EReal => z + lanes (wt (grid0.coords t) x1 x2) 0 r) (?_ : k0_pay13 (F := Ideal) (ix2 r u) = 0)).trans (zero_add _)
  pointwise [k0_pay13]

/-- What the first point leaves in scratch 2. -/
theorem carryA_2 (h0 : cond0_0 (grid0.coords t)) (h1 : ¬cond0_1 (grid0.coords t)) (r : Fin 512) (u : Fin 1) :
    (carryA c t h0 h1 x0 x1 x2).2.2.1 (ix2 r u) = lanes (wt (grid0.coords t) x1 x2) 1 r := by
  unfold carryA
  dsimp only
  rw [sumsA_2, View.canon_cons_unit_zero off2, stO_apply, ld1_eq, ld2_eq]
  rw [View.readCov_unit_zero _ off2]
  refine (congrArg (fun z : EReal => z + lanes (wt (grid0.coords t) x1 x2) 1 r) (?_ : k0_pay14 (F := Ideal) (ix2 r u) = 0)).trans (zero_add _)
  pointwise [k0_pay14]

/-- What the first point leaves in scratch 3. -/
theorem carryA_3 (h0 : cond0_0 (grid0.coords t)) (h1 : ¬cond0_1 (grid0.coords t)) (r : Fin 512) (u : Fin 1) :
    (carryA c t h0 h1 x0 x1 x2).2.2.2.1 (ix2 r u) = lanes (dg (grid0.coords t) x1) 0 r := by
  unfold carryA
  dsimp only
  rw [sumsA_3, View.canon_cons_unit_zero off2, stDE_apply, ld1_eq]
  rw [View.readCov_unit_zero _ off2]
  refine (congrArg (fun z : EReal => z + lanes (dg (grid0.coords t) x1) 0 r) (?_ : k0_pay15 (F := Ideal) (ix2 r u) = 0)).trans (zero_add _)
  pointwise [k0_pay15]

/-- What the first point leaves in scratch 4. -/
theorem carryA_4 (h0 : cond0_0 (grid0.coords t)) (h1 : ¬cond0_1 (grid0.coords t)) (r : Fin 512) (u : Fin 1) :
    (carryA c t h0 h1 x0 x1 x2).2.2.2.2 (ix2 r u) = lanes (dg (grid0.coords t) x1) 1 r := by
  unfold carryA
  dsimp only
  rw [sumsA_4, View.canon_cons_unit_zero off2, stDO_apply, ld1_eq]
  rw [View.readCov_unit_zero _ off2]
  refine (congrArg (fun z : EReal => z + lanes (dg (grid0.coords t) x1) 1 r) (?_ : k0_pay16 (F := Ideal) (ix2 r u) = 0)).trans (zero_add _)
  pointwise [k0_pay16]

/-- What the middle point leaves in the accumulator. -/
theorem carryB_0 (h0 : ¬cond0_0 (grid0.coords t)) (h1 : ¬cond0_1 (grid0.coords t)) (r : Fin 512) (l : Fin 128) :
    (carryB c t h0 h1 x0 x1 x2 s).1 (ix2 r l) = s.1 (ix2 r l) + adds x0 (wt (grid0.coords t) x1 x2) r l := by
  unfold carryB
  dsimp only
  rw [accs_B, slabs_B, ld1_eq, ld2_eq]
  exact canon_accL _ _ _ _ _ x0 _ _ r l 8 le_rfl (by omega)

/-- What the middle point leaves in scratch 1. -/
theorem carryB_1 (h0 : ¬cond0_0 (grid0.coords t)) (h1 : ¬cond0_1 (grid0.coords t)) (r : Fin 512) (u : Fin 1) :
    (carryB c t h0 h1 x0 x1 x2 s).2.1 (ix2 r u) = s.2.1 (ix2 r u) + lanes (wt (grid0.coords t) x1 x2) 0 r := by
  unfold carryB
  dsimp only
  rw [sumsB_1, View.canon_cons_unit_zero off2, stE_apply, ld1_eq, ld2_eq]
  rw [View.readAt_eq_ld, (Memref.isWhole_whole (sig := sig) _).read_unread, View.ld_unit_zero off2]

/-- What the middle point leaves in scratch 2. -/
theorem carryB_2 (h0 : ¬cond0_0 (grid0.coords t)) (h1 : ¬cond0_1 (grid0.coords t)) (r : Fin 512) (u : Fin 1) :
    (carryB c t h0 h1 x0 x1 x2 s).2.2.1 (ix2 r u) = s.2.2.1 (ix2 r u) + lanes (wt (grid0.coords t) x1 x2) 1 r := by
  unfold carryB
  dsimp only
  rw [sumsB_2, View.canon_cons_unit_zero off2, stO_apply, ld1_eq, ld2_eq]
  rw [View.readAt_eq_ld, (Memref.isWhole_whole (sig := sig) _).read_unread, View.ld_unit_zero off2]

/-- What the middle point leaves in scratch 3. -/
theorem carryB_3 (h0 : ¬cond0_0 (grid0.coords t)) (h1 : ¬cond0_1 (grid0.coords t)) (r : Fin 512) (u : Fin 1) :
    (carryB c t h0 h1 x0 x1 x2 s).2.2.2.1 (ix2 r u) = s.2.2.2.1 (ix2 r u) + lanes (dg (grid0.coords t) x1) 0 r := by
  unfold carryB
  dsimp only
  rw [sumsB_3, View.canon_cons_unit_zero off2, stDE_apply, ld1_eq]
  rw [View.readAt_eq_ld, (Memref.isWhole_whole (sig := sig) _).read_unread, View.ld_unit_zero off2]

/-- What the middle point leaves in scratch 4. -/
theorem carryB_4 (h0 : ¬cond0_0 (grid0.coords t)) (h1 : ¬cond0_1 (grid0.coords t)) (r : Fin 512) (u : Fin 1) :
    (carryB c t h0 h1 x0 x1 x2 s).2.2.2.2 (ix2 r u) = s.2.2.2.2 (ix2 r u) + lanes (dg (grid0.coords t) x1) 1 r := by
  unfold carryB
  dsimp only
  rw [sumsB_4, View.canon_cons_unit_zero off2, stDO_apply, ld1_eq]
  rw [View.readAt_eq_ld, (Memref.isWhole_whole (sig := sig) _).read_unread, View.ld_unit_zero off2]

/-- What the last point leaves in the accumulator. -/
theorem carryC_0 (h0 : ¬cond0_0 (grid0.coords t)) (h1 : cond0_1 (grid0.coords t)) (r : Fin 512) (l : Fin 128) :
    (carryC c t h0 h1 x0 x1 x2 s).1 (ix2 r l) = s.1 (ix2 r l) + adds x0 (wt (grid0.coords t) x1 x2) r l := by
  unfold carryC
  dsimp only
  rw [accs_C, slabs_C, ld1_eq, ld2_eq]
  exact canon_accL _ _ _ _ _ x0 _ _ r l 8 le_rfl (by omega)

/-- What the last point leaves in scratch 1. -/
theorem carryC_1 (h0 : ¬cond0_0 (grid0.coords t)) (h1 : cond0_1 (grid0.coords t)) (r : Fin 512) (u : Fin 1) :
    (carryC c t h0 h1 x0 x1 x2 s).2.1 (ix2 r u) = s.2.1 (ix2 r u) + lanes (wt (grid0.coords t) x1 x2) 0 r := by
  unfold carryC
  dsimp only
  rw [sumsC_1, View.canon_cons_unit_zero off2, stE_apply, ld1_eq, ld2_eq]
  rw [View.readAt_eq_ld, (Memref.isWhole_whole (sig := sig) _).read_unread, View.ld_unit_zero off2]

/-- What the last point leaves in scratch 2. -/
theorem carryC_2 (h0 : ¬cond0_0 (grid0.coords t)) (h1 : cond0_1 (grid0.coords t)) (r : Fin 512) (u : Fin 1) :
    (carryC c t h0 h1 x0 x1 x2 s).2.2.1 (ix2 r u) = s.2.2.1 (ix2 r u) + lanes (wt (grid0.coords t) x1 x2) 1 r := by
  unfold carryC
  dsimp only
  rw [sumsC_2, View.canon_cons_unit_zero off2, stO_apply, ld1_eq, ld2_eq]
  rw [View.readAt_eq_ld, (Memref.isWhole_whole (sig := sig) _).read_unread, View.ld_unit_zero off2]

/-- What the last point leaves in scratch 3. -/
theorem carryC_3 (h0 : ¬cond0_0 (grid0.coords t)) (h1 : cond0_1 (grid0.coords t)) (r : Fin 512) (u : Fin 1) :
    (carryC c t h0 h1 x0 x1 x2 s).2.2.2.1 (ix2 r u) = s.2.2.2.1 (ix2 r u) + lanes (dg (grid0.coords t) x1) 0 r := by
  unfold carryC
  dsimp only
  rw [sumsC_3, View.canon_cons_unit_zero off2, stDE_apply, ld1_eq]
  rw [View.readAt_eq_ld, (Memref.isWhole_whole (sig := sig) _).read_unread, View.ld_unit_zero off2]

/-- What the last point leaves in scratch 4. -/
theorem carryC_4 (h0 : ¬cond0_0 (grid0.coords t)) (h1 : cond0_1 (grid0.coords t)) (r : Fin 512) (u : Fin 1) :
    (carryC c t h0 h1 x0 x1 x2 s).2.2.2.2 (ix2 r u) = s.2.2.2.2 (ix2 r u) + lanes (dg (grid0.coords t) x1) 1 r := by
  unfold carryC
  dsimp only
  rw [sumsC_4, View.canon_cons_unit_zero off2, stDO_apply, ld1_eq]
  rw [View.readAt_eq_ld, (Memref.isWhole_whole (sig := sig) _).read_unread, View.ld_unit_zero off2]

/-- The first output is the accumulator. -/
theorem outC_3_eq (h0 : ¬cond0_0 (grid0.coords t)) (h1 : cond0_1 (grid0.coords t)) : outC_3 c t h0 h1 x0 x1 x2 s = (carryC c t h0 h1 x0 x1 x2 s).1 := by
  unfold outC_3
  rw [outsC_3, View.canon_unit_zero off2, View.readCov_eq_canon_ld _ _ _ (scoverC_0 c t h0 h1 x0 x1 x2 s), View.ld_unit_zero off2]
  rfl
/-- The second output is the two columns of skip sums. -/
theorem outC_4_eq (h0 : ¬cond0_0 (grid0.coords t)) (h1 : cond0_1 (grid0.coords t)) : outC_4 c t h0 h1 x0 x1 x2 s = k0_pay2 (carryC c t h0 h1 x0 x1 x2 s).2.1 (carryC c t h0 h1 x0 x1 x2 s).2.2.1 := by
  unfold outC_4
  rw [outsC_4, View.canon_unit_zero off2]
  have e1 : scM0_1.view.readCov (runC c t h0 h1 x0 x1 x2 s).2.2.2.2.1 rS.toLoadRect = (carryC c t h0 h1 x0 x1 x2 s).2.1 := by
    rw [View.readCov_eq_canon_ld _ _ _ (scoverC_1 c t h0 h1 x0 x1 x2 s), View.ld_unit_zero off2]
    rfl
  have e2 : scM0_2.view.readCov (runC c t h0 h1 x0 x1 x2 s).2.2.2.2.2.1 rS.toLoadRect = (carryC c t h0 h1 x0 x1 x2 s).2.2.1 := by
    rw [View.readCov_eq_canon_ld _ _ _ (scoverC_2 c t h0 h1 x0 x1 x2 s), View.ld_unit_zero off2]
    rfl
  exact congrArg₂ k0_pay2 e1 e2
/-- The third output is the two columns of diagonal sums. -/
theorem outC_5_eq (h0 : ¬cond0_0 (grid0.coords t)) (h1 : cond0_1 (grid0.coords t)) : outC_5 c t h0 h1 x0 x1 x2 s = k0_pay3 (carryC c t h0 h1 x0 x1 x2 s).2.2.2.1 (carryC c t h0 h1 x0 x1 x2 s).2.2.2.2 := by
  unfold outC_5
  rw [outsC_5, View.canon_unit_zero off2]
  have e3 : scM0_3.view.readCov (runC c t h0 h1 x0 x1 x2 s).2.2.2.2.2.2.1 rS.toLoadRect = (carryC c t h0 h1 x0 x1 x2 s).2.2.2.1 := by
    rw [View.readCov_eq_canon_ld _ _ _ (scoverC_3 c t h0 h1 x0 x1 x2 s), View.ld_unit_zero off2]
    rfl
  have e4 : scM0_4.view.readCov (runC c t h0 h1 x0 x1 x2 s).2.2.2.2.2.2.2.1 rS.toLoadRect = (carryC c t h0 h1 x0 x1 x2 s).2.2.2.2 := by
    rw [View.readCov_eq_canon_ld _ _ _ (scoverC_4 c t h0 h1 x0 x1 x2 s), View.ld_unit_zero off2]
    rfl
  exact congrArg₂ k0_pay3 e3 e4

end Points

end Cert.KernelIdeal.Hand

end
-- ==== Proof.Value.Total.lean ====
module

public import proofs.«01_k».proof.Proof.Value.Blocks
public import proofs.«01_k».proof.Proof.Value.Cols

/-! What the first kernel leaves after its last point: sums over all branches. -/

@[expose] public section

set_option maxRecDepth 16384

noncomputable section

namespace Cert.KernelIdeal.Hand

open Cert.KernelIdeal.Gen
open Idealize.ShloMosaic Idealize.ShloMosaic.TcCoe Idealize.ShloMosaic.Tactic

/-- A point's share of a sum over the 1024 branches. -/
def part (f : Fin 1024 → EReal) (t : Fin 32) : EReal := ∑ l : Fin 32, f ⟨t.val * 32 + l.val, by omega⟩
/-- The shares of the first `n` points. -/
def parts (f : Fin 1024 → EReal) (n : ℕ) (h : n ≤ 32) : EReal := ∑ b : Fin n, part f ⟨b.val, by omega⟩

/-- The first part alone. -/
theorem parts_one (f : Fin 1024 → EReal) (h : 1 ≤ 32) : parts f 1 h = part f 0 := by
  unfold parts; rw [Fin.sum_univ_one]; rfl
/-- One part more. -/
theorem parts_succ (f : Fin 1024 → EReal) (n : ℕ) (h : n + 1 ≤ 32) : parts f (n + 1) h = parts f n (Nat.le_of_succ_le h) + part f ⟨n, h⟩ := by
  unfold parts; rw [Fin.sum_univ_castSucc]; rfl
/-- All 32 shares are the whole sum. -/
theorem parts_all (f : Fin 1024 → EReal) : parts f 32 le_rfl = ∑ i, f i := by
  unfold parts part
  rw [← (finProdFinEquiv (m := 32) (n := 32)).sum_comp f, Fintype.sum_prod_type]
  exact Finset.sum_congr rfl fun b _ => Finset.sum_congr rfl fun l _ => congrArg f (Fin.ext (show b.val * 32 + l.val = l.val + 32 * b.val by omega))

variable (m : (ℓ : Loc nD τ sig) → Buf (Elt Ideal) ℓ) (c : Dev nD)

/-- Branch `i`'s weight in block `j` as the kernel takes it: no weight from a block to itself. -/
def wgt (j i : Fin 1024) : EReal := (if j = i then 0 else argSd m c (ix2 i j)) * argIp m c (ix1 i)
/-- Branch `i`'s weighted context in block `j`. -/
def ctx (j : Fin 1024) (h : Fin 64) (i : Fin 1024) : EReal := argHs m c (ix3 i j h) * wgt m c j i
/-- The skip decision of block `j` on its own, as a term of a sum. -/
def own (j i : Fin 1024) : EReal := if j = i then argSd m c (ix2 i j) else 0

/-- Over all rows, the diagonal's picks sum to the diagonal entry. -/
theorem sum_own (j : Fin 1024) : ∑ i, own m c j i = argSd m c (ix2 j j) := by
  unfold own
  rw [Finset.sum_ite_eq]
  exact if_pos (Finset.mem_univ j)

/-- The weight a point gives a lane, read off the arguments. -/
theorem wt_point (t : Fin cfg0.N) (r : Fin 512) (q : Fin 2) (n : Fin 32) (k : Fin 64) (hk : k.val = q.val * 32 + n.val) :
    wt (grid0.coords t) (iblk0 (bufs1 m) c 1 t) (iblk0 (bufs1 m) c 2 t) (ix2 r k)
      = wgt m c ⟨r.val * 2 + q.val, by omega⟩ ⟨t.val * 32 + n.val, by have := lt32 t; omega⟩ := by
  have ht := lt32 t
  rw [wt_apply, blk0_1, blk0_2, coords0]
  unfold wgt
  have e1 : k.val / 32 = q.val := by omega
  have e2 : k.val % 32 = n.val := by omega
  refine congrArg₂ (fun a b : EReal => a * b) ?_ (congrArg (argIp m c) (congrArg ix1 (Fin.ext (by simp only [e2]))))
  have ec : (2 * r.val + k.val / 32 = 32 * t.val + k.val % 32) ↔ ((⟨r.val * 2 + q.val, by omega⟩ : Fin 1024) = ⟨t.val * 32 + n.val, by omega⟩) := by
    rw [Fin.ext_iff, e1, e2]; simp only; omega
  rw [if_congr ec rfl rfl]
  simp only [e1, e2]
/-- The diagonal pick a point gives a lane, read off the arguments. -/
theorem dg_point (t : Fin cfg0.N) (r : Fin 512) (q : Fin 2) (n : Fin 32) (k : Fin 64) (hk : k.val = q.val * 32 + n.val) :
    dg (grid0.coords t) (iblk0 (bufs1 m) c 1 t) (ix2 r k)
      = own m c ⟨r.val * 2 + q.val, by omega⟩ ⟨t.val * 32 + n.val, by have := lt32 t; omega⟩ := by
  have ht := lt32 t
  rw [dg_apply, blk0_1, coords0]
  unfold own
  have e1 : k.val / 32 = q.val := by omega
  have e2 : k.val % 32 = n.val := by omega
  have ec : (2 * r.val + k.val / 32 = 32 * t.val + k.val % 32) ↔ ((⟨r.val * 2 + q.val, by omega⟩ : Fin 1024) = ⟨t.val * 32 + n.val, by omega⟩) := by
    rw [Fin.ext_iff, e1, e2]; simp only; omega
  rw [if_congr ec rfl rfl]
  simp only [e1, e2]

/-- A point's weights, summed over its lanes. -/
theorem lanes_wt (t : Fin cfg0.N) (r : Fin 512) (q : Fin 2) :
    lanes (wt (grid0.coords t) (iblk0 (bufs1 m) c 1 t) (iblk0 (bufs1 m) c 2 t)) q r = part (wgt m c ⟨r.val * 2 + q.val, by omega⟩) ⟨t.val, lt32 t⟩ :=
  Finset.sum_congr rfl fun n _ => wt_point m c t r q n _ (by simp only; omega)
/-- A point's diagonal picks, summed over its lanes. -/
theorem lanes_dg (t : Fin cfg0.N) (r : Fin 512) (q : Fin 2) :
    lanes (dg (grid0.coords t) (iblk0 (bufs1 m) c 1 t)) q r = part (own m c ⟨r.val * 2 + q.val, by omega⟩) ⟨t.val, lt32 t⟩ :=
  Finset.sum_congr rfl fun n _ => dg_point m c t r q n _ (by simp only; omega)
/-- What a point adds to the accumulator, read off the arguments. -/
theorem adds_point (t : Fin cfg0.N) (r : Fin 512) (l : Fin 128) :
    adds (iblk0 (bufs1 m) c 0 t) (wt (grid0.coords t) (iblk0 (bufs1 m) c 1 t) (iblk0 (bufs1 m) c 2 t)) r l
      = part (ctx m c ⟨r.val * 2 + l.val / 64, by omega⟩ ⟨l.val % 64, by omega⟩) ⟨t.val, lt32 t⟩ := by
  unfold adds part ctx
  exact Finset.sum_congr rfl fun n _ => congrArg₂ (fun a b : EReal => a * b) (blk0_0 m c t n r l) (wt_point m c t r ⟨l.val / 64, by omega⟩ n _ rfl)

/-- What the carried buffers hold after `n` points. -/
structure Sums (n : ℕ) (h : n ≤ 32) (s : Carry Ideal) : Prop where
  acc : ∀ (r : Fin 512) (l : Fin 128), s.1 (ix2 r l) = parts (ctx m c ⟨r.val * 2 + l.val / 64, by omega⟩ ⟨l.val % 64, by omega⟩) n h
  skE : ∀ (r : Fin 512) (u : Fin 1), s.2.1 (ix2 r u) = parts (wgt m c ⟨r.val * 2 + (0 : Fin 2).val, by omega⟩) n h
  skO : ∀ (r : Fin 512) (u : Fin 1), s.2.2.1 (ix2 r u) = parts (wgt m c ⟨r.val * 2 + (1 : Fin 2).val, by omega⟩) n h
  dgE : ∀ (r : Fin 512) (u : Fin 1), s.2.2.2.1 (ix2 r u) = parts (own m c ⟨r.val * 2 + (0 : Fin 2).val, by omega⟩) n h
  dgO : ∀ (r : Fin 512) (u : Fin 1), s.2.2.2.2 (ix2 r u) = parts (own m c ⟨r.val * 2 + (1 : Fin 2).val, by omega⟩) n h

/-- The sums after one point more. -/
theorem sums_step (t : Fin cfg0.N) (h : t.val ≠ 0) (s : Carry Ideal) (hs : Sums m c t.val (lt32 t).le s) :
    Sums m c (t.val + 1) (lt32 t) (carryStep (bufs1 m) c t h s) := by
  unfold carryStep
  by_cases h1 : t.val = 31
  · rw [dif_pos h1]
    constructor
    · intro r l; rw [carryC_0, hs.acc, parts_succ, adds_point]
    · intro r u; rw [carryC_1, hs.skE, parts_succ, lanes_wt]
    · intro r u; rw [carryC_2, hs.skO, parts_succ, lanes_wt]
    · intro r u; rw [carryC_3, hs.dgE, parts_succ, lanes_dg]
    · intro r u; rw [carryC_4, hs.dgO, parts_succ, lanes_dg]
  · rw [dif_neg h1]
    constructor
    · intro r l; rw [carryB_0, hs.acc, parts_succ, adds_point]
    · intro r u; rw [carryB_1, hs.skE, parts_succ, lanes_wt]
    · intro r u; rw [carryB_2, hs.skO, parts_succ, lanes_wt]
    · intro r u; rw [carryB_3, hs.dgE, parts_succ, lanes_dg]
    · intro r u; rw [carryB_4, hs.dgO, parts_succ, lanes_dg]

/-- After point `n` the carried buffers hold the shares of the points so far. -/
theorem sums_carry : (n : ℕ) → (h : n < cfg0.N) → Sums m c (n + 1) (lt32 ⟨n, h⟩) (carry (bufs1 m) c n h)
  | 0, h => by
    rw [carry_zero (bufs1 m) c ⟨0, h⟩ rfl]
    constructor
    · intro r l; rw [carryA_0, parts_one, adds_point]; rfl
    · intro r u; rw [carryA_1, parts_one, lanes_wt]; rfl
    · intro r u; rw [carryA_2, parts_one, lanes_wt]; rfl
    · intro r u; rw [carryA_3, parts_one, lanes_dg]; rfl
    · intro r u; rw [carryA_4, parts_one, lanes_dg]; rfl
  | n + 1, h => sums_step m c ⟨n + 1, h⟩ (Nat.succ_ne_zero n) _ (sums_carry n (Nat.lt_of_succ_lt h))

/-- What the scratch buffers hold after the last point. -/
theorem last_carry (t : Fin cfg0.N) (h : t.val = 31) :
    carryC c t (ncond0_0_pos t (by omega)) ((hcond0_1 t).mpr h) (iblk0 (bufs1 m) c 0 t) (iblk0 (bufs1 m) c 1 t) (iblk0 (bufs1 m) c 2 t) (carry (bufs1 m) c (t.val - 1) (by omega))
      = carry (bufs1 m) c t.val t.isLt := by
  rw [carry_pos (bufs1 m) c t (by omega)]
  unfold carryStep
  rw [dif_pos h]

/-- The last point's first output: the weighted contexts, two blocks to a row. -/
theorem out3_apply (t : Fin cfg0.N) (h : t.val = 31) (r : Fin 512) (l : Fin 128) :
    outs0_3 (bufs1 m) c t (ix2 r l) = ∑ i, ctx m c ⟨r.val * 2 + l.val / 64, by omega⟩ ⟨l.val % 64, by omega⟩ i := by
  unfold outs0_3
  rw [dif_pos h, outC_3_eq, last_carry m c t h, (sums_carry m c t.val t.isLt).acc, ← parts_all]
  obtain ⟨n, hn⟩ := t; subst h; rfl
/-- The last point's second output: the weights' sums, two blocks to a row. -/
theorem out4_apply (t : Fin cfg0.N) (h : t.val = 31) (r : Fin 512) (q : Fin 2) :
    outs0_4 (bufs1 m) c t (ix2 r q) = ∑ i, wgt m c ⟨r.val * 2 + q.val, by omega⟩ i := by
  unfold outs0_4
  rw [dif_pos h, outC_4_eq, last_carry m c t h, ← parts_all]
  pointwise [k0_pay2]
  obtain ⟨n, hn⟩ := t; subst h
  match q with
  | 0 => exact (sums_carry m c 31 hn).skE r _
  | 1 => exact (sums_carry m c 31 hn).skO r _
/-- The last point's third output: each block's own skip decision, two blocks to a row. -/
theorem out5_apply (t : Fin cfg0.N) (h : t.val = 31) (r : Fin 512) (q : Fin 2) :
    outs0_5 (bufs1 m) c t (ix2 r q) = argSd m c (ix2 (⟨r.val * 2 + q.val, by omega⟩ : Fin 1024) (⟨r.val * 2 + q.val, by omega⟩ : Fin 1024)) := by
  unfold outs0_5
  rw [dif_pos h, outC_5_eq, last_carry m c t h, ← sum_own m c, ← parts_all]
  pointwise [k0_pay3]
  obtain ⟨n, hn⟩ := t; subst h
  match q with
  | 0 => exact (sums_carry m c 31 hn).dgE r _
  | 1 => exact (sums_carry m c 31 hn).dgO r _

end Cert.KernelIdeal.Hand

end
-- ==== Proof.Value.Arrays.lean ====
module

public import proofs.«01_k».proof.Proof.Value.Total

/-! The first region's three results as arrays. -/

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

/-- The last point of the first region. -/
abbrev tEnd : Fin cfg0.N := ⟨31, by decide⟩

/-- The block window 3 of the first call reads or writes at point `t`. -/
theorem index0_3 : ∀ t : Fin cfg0.N, win0_3.index t (0 : Fin 2) = 0 ∧ win0_3.index t (1 : Fin 2) = 0 := (by decide +kernel : ∀ t : Fin grid0.N, _)
/-- The block of window 3 of call 0 is placed at the array's own coordinates. -/
theorem emb0_3 (t : Fin cfg0.N) (j : S512x128.Idx) : ((cfg0.win 3).blk t).view.emb j = j := by
  obtain ⟨e0, e1⟩ := index0_3 t
  funext a; apply Fin.ext
  match a with
  | ⟨0, _⟩ => show win0_3.index t (0 : Fin 2) * 512 + 1 * (j 0).val = (j 0).val; omega
  | ⟨1, _⟩ => show win0_3.index t (1 : Fin 2) * 128 + 1 * (j 1).val = (j 1).val; omega
/-- The region leaves in its result what its last point's staging buffer holds. -/
theorem arr0_3 : (dat0 (bufs1 m) c).arrAt 3 cfg0.N = outs0_3 (bufs1 m) c tEnd := by
  refine (dat0 (bufs1 m) c).arrAt_eq_of_cover 3 (outs0_3 (bufs1 m) c tEnd) (fun t hf => ?_) (fun i => ⟨tEnd, (flush0_3 tEnd).mpr (by decide), ?_⟩)
  · have h := (flush0_3 t).mp hf
    have ht := lt32 t
    obtain rfl : t = tEnd := Fin.ext (show t.val = 31 by omega)
    show (cfg0.win 3).cut (grid0.coords tEnd) ((dat0 (bufs1 m) c).after 3 tEnd) = _
    rw [after0_3]
    funext j
    show outs0_3 (bufs1 m) c tEnd j = outs0_3 (bufs1 m) c tEnd (((cfg0.win 3).blk tEnd).view.emb j)
    rw [emb0_3]
  · have h := ((cfg0.win 3).blk tEnd).view.emb_mem_set i
    rwa [emb0_3] at h
/-- The array window 3 leaves when its call ends. -/
theorem left_3 : left0 m 2 main_v5_0 c = outs0_3 (bufs1 m) c tEnd :=
  (Pipeline.afterRegion_arr (dat0 (bufs1 m) c) (V1 m c) launch0.win.arr_inj 3).trans (arr0_3 m c)

/-- The block window 4 of the first call reads or writes at point `t`. -/
theorem index0_4 : ∀ t : Fin cfg0.N, win0_4.index t (0 : Fin 2) = 0 ∧ win0_4.index t (1 : Fin 2) = 0 := (by decide +kernel : ∀ t : Fin grid0.N, _)
/-- The block of window 4 of call 0 is placed at the array's own coordinates. -/
theorem emb0_4 (t : Fin cfg0.N) (j : S512x2.Idx) : ((cfg0.win 4).blk t).view.emb j = j := by
  obtain ⟨e0, e1⟩ := index0_4 t
  funext a; apply Fin.ext
  match a with
  | ⟨0, _⟩ => show win0_4.index t (0 : Fin 2) * 512 + 1 * (j 0).val = (j 0).val; omega
  | ⟨1, _⟩ => show win0_4.index t (1 : Fin 2) * 2 + 1 * (j 1).val = (j 1).val; omega
/-- The region leaves in its result what its last point's staging buffer holds. -/
theorem arr0_4 : (dat0 (bufs1 m) c).arrAt 4 cfg0.N = outs0_4 (bufs1 m) c tEnd := by
  refine (dat0 (bufs1 m) c).arrAt_eq_of_cover 4 (outs0_4 (bufs1 m) c tEnd) (fun t hf => ?_) (fun i => ⟨tEnd, (flush0_4 tEnd).mpr (by decide), ?_⟩)
  · have h := (flush0_4 t).mp hf
    have ht := lt32 t
    obtain rfl : t = tEnd := Fin.ext (show t.val = 31 by omega)
    show (cfg0.win 4).cut (grid0.coords tEnd) ((dat0 (bufs1 m) c).after 4 tEnd) = _
    rw [after0_4]
    funext j
    show outs0_4 (bufs1 m) c tEnd j = outs0_4 (bufs1 m) c tEnd (((cfg0.win 4).blk tEnd).view.emb j)
    rw [emb0_4]
  · have h := ((cfg0.win 4).blk tEnd).view.emb_mem_set i
    rwa [emb0_4] at h
/-- The array window 4 leaves when its call ends. -/
theorem left_4 : left0 m 2 main_v5_1 c = outs0_4 (bufs1 m) c tEnd :=
  (Pipeline.afterRegion_arr (dat0 (bufs1 m) c) (V1 m c) launch0.win.arr_inj 4).trans (arr0_4 m c)

/-- The block window 5 of the first call reads or writes at point `t`. -/
theorem index0_5 : ∀ t : Fin cfg0.N, win0_5.index t (0 : Fin 2) = 0 ∧ win0_5.index t (1 : Fin 2) = 0 := (by decide +kernel : ∀ t : Fin grid0.N, _)
/-- The block of window 5 of call 0 is placed at the array's own coordinates. -/
theorem emb0_5 (t : Fin cfg0.N) (j : S512x2.Idx) : ((cfg0.win 5).blk t).view.emb j = j := by
  obtain ⟨e0, e1⟩ := index0_5 t
  funext a; apply Fin.ext
  match a with
  | ⟨0, _⟩ => show win0_5.index t (0 : Fin 2) * 512 + 1 * (j 0).val = (j 0).val; omega
  | ⟨1, _⟩ => show win0_5.index t (1 : Fin 2) * 2 + 1 * (j 1).val = (j 1).val; omega
/-- The region leaves in its result what its last point's staging buffer holds. -/
theorem arr0_5 : (dat0 (bufs1 m) c).arrAt 5 cfg0.N = outs0_5 (bufs1 m) c tEnd := by
  refine (dat0 (bufs1 m) c).arrAt_eq_of_cover 5 (outs0_5 (bufs1 m) c tEnd) (fun t hf => ?_) (fun i => ⟨tEnd, (flush0_5 tEnd).mpr (by decide), ?_⟩)
  · have h := (flush0_5 t).mp hf
    have ht := lt32 t
    obtain rfl : t = tEnd := Fin.ext (show t.val = 31 by omega)
    show (cfg0.win 5).cut (grid0.coords tEnd) ((dat0 (bufs1 m) c).after 5 tEnd) = _
    rw [after0_5]
    funext j
    show outs0_5 (bufs1 m) c tEnd j = outs0_5 (bufs1 m) c tEnd (((cfg0.win 5).blk tEnd).view.emb j)
    rw [emb0_5]
  · have h := ((cfg0.win 5).blk tEnd).view.emb_mem_set i
    rwa [emb0_5] at h
/-- The array window 5 leaves when its call ends. -/
theorem left_5 : left0 m 2 main_v5_2 c = outs0_5 (bufs1 m) c tEnd :=
  (Pipeline.afterRegion_arr (dat0 (bufs1 m) c) (V1 m c) launch0.win.arr_inj 5).trans (arr0_5 m c)

end Cert.KernelIdeal.Hand

end
-- ==== Proof.Value.Epi.lean ====
module

public import proofs.«01_k».proof.Proof.Ideal.Main
public import proofs.«01_k».proof.Proof.Value.Cols

/-! The second kernel's two results, entry by entry. -/

@[expose] public section

set_option maxRecDepth 16384

noncomputable section

namespace Cert.KernelIdeal.Hand

open Cert.KernelIdeal.Gen
open Idealize.ShloMosaic Idealize.ShloMosaic.TcCoe Idealize.ShloMosaic.Tactic

/-- Branch `i`'s two probabilities as block `j` receives them. -/
def recv (v0 v2 v4 v5 : FVec Ideal S1024x1 .f32) (v11 v19 : IVec S1024x1 32) (j i : Fin 1024) : EReal :=
  (if v11 (ix2 i (0 : Fin 1)) = BitVec.ofNat 32 j.val then v0 (ix2 i (0 : Fin 1)) * v2 (ix2 i (0 : Fin 1)) * v4 (ix2 i (0 : Fin 1)) else 0)
    + (if v19 (ix2 i (0 : Fin 1)) = BitVec.ofNat 32 j.val then v0 (ix2 i (0 : Fin 1)) * v2 (ix2 i (0 : Fin 1)) * v5 (ix2 i (0 : Fin 1)) else 0)

/-- Selecting by equality of a word with a row number. -/
theorem pick_word (w : BitVec 32) (j : ℕ) (a : EReal) : Scalar.select (IntOp.cmpi CmpIPredicate.eq w (BitVec.ofNat 32 j)) a (0 : EReal) = if w = BitVec.ofNat 32 j then a else 0 := by
  by_cases h : w = BitVec.ofNat 32 j
  · subst h; rw [if_pos rfl]
    simp [Scalar.select, IntOp.cmpi]
  · rw [if_neg h]
    simp [Scalar.select, IntOp.cmpi, beq_eq_false_iff_ne.mpr h]

/-- The product's entries: the received probabilities against a column of the states, or against ones. -/
theorem k1_pay2_apply (v0 v2 v4 v5 : FVec Ideal S1024x1 .f32) (v11 v19 : IVec S1024x1 32) (v28 : FVec Ideal S1024x64 .f32) (j : Fin 1024) (k : Fin 65) :
    k1_pay2 (F := Ideal) v0 v2 v4 v5 v11 v19 v28 (ix2 j k) = ∑ i : Fin 1024, (recv v0 v2 v4 v5 v11 v19 j i * (if h : k.val < 64 then v28 (ix2 i ⟨k.val, h⟩) else 1) : EReal) := by
  pointwise [k1_pay2, pick_word]
  rfl

/-- The new instruction pointer: what the block receives, and what is skipped to it. -/
theorem k1_pay3_apply (v0 v2 v4 v5 : FVec Ideal S1024x1 .f32) (v11 v19 : IVec S1024x1 32) (v28 : FVec Ideal S1024x64 .f32) (v33 : FVec Ideal S1024x1 .f32) (j : Fin 1024) (u : Fin 1) :
    k1_pay3 (F := Ideal) v0 v2 v4 v5 v11 v19 v28 v33 (ix2 j u) = (∑ i : Fin 1024, recv v0 v2 v4 v5 v11 v19 j i) + v33 (ix2 j u) := by
  pointwise [k1_pay3, k1_pay2_apply]

/-- The divisor's small summand. -/
def tiny : EReal := Ideal.ofBits FTy.f32 0x33D6BF95#32

/-- The new hidden states: what the block receives of the states, and of the contexts, over the new instruction pointer. -/
theorem k1_pay1_apply (v31 : FVec Ideal S1024x65 .f32) (v35 : FVec Ideal S1024x1 .f32) (v38 : FVec Ideal S1024x64 .f32) (j : Fin 1024) (h : Fin 64) :
    k1_pay1 (F := Ideal) v31 v35 v38 (ix2 j h) = Ideal.div ((v31 (ix2 j (⟨h.val, by omega⟩ : Fin 65)) : EReal) + v38 (ix2 j h)) (v35 (ix2 j (0 : Fin 1)) + tiny) := by
  pointwise [k1_pay1]
  rfl

section Loads
/-- Loading a whole column gives the column. -/
theorem ld_col {e : EltTy} (X : Vec Ideal S1024x1 e) : View.ld X colR = X := View.ld_unit_zero off2 _ _
/-- Loading a whole matrix gives the matrix. -/
theorem ld_mat (X : Vec Ideal S1024x64 .f32) : View.ld X matR = X := View.ld_unit_zero off2 _ _
/-- The first column of a pair. -/
def fst2 (X : Vec Ideal S1024x2 .f32) : Vec Ideal S1024x1 .f32 := fun y => X (ix2 (y 0) (0 : Fin 2))
/-- The second column of a pair. -/
def snd2 (X : Vec Ideal S1024x2 .f32) : Vec Ideal S1024x1 .f32 := fun y => X (ix2 (y 0) (1 : Fin 2))
/-- Loading column 0 of a two-column array gives that column. -/
theorem ld_two0 (X : Vec Ideal S1024x2 .f32) : View.ld X twoR0 = fst2 X := by
  funext y
  refine congrArg X (funext fun a => Fin.ext ?_)
  match a with
  | ⟨0, _⟩ => show 0 + 1 * (y 0).val = (y 0).val; omega
  | ⟨1, _⟩ => have : (y 1).val < 1 := (y 1).isLt
              show 0 + 1 * (y 1).val = 0; omega
/-- Loading column 1 of a two-column array gives that column. -/
theorem ld_two1 (X : Vec Ideal S1024x2 .f32) : View.ld X twoR1 = snd2 X := by
  funext y
  refine congrArg X (funext fun a => Fin.ext ?_)
  match a with
  | ⟨0, _⟩ => show 0 + 1 * (y 0).val = (y 0).val; omega
  | ⟨1, _⟩ => have : (y 1).val < 1 := (y 1).isLt
              show 1 + 1 * (y 1).val = 1; omega
end Loads

variable (x0 x1 : Vec Ideal S1024x1 .f32) (x2 : Vec Ideal S1024x2 .f32) (x3 : Vec Ideal S1024x64 .f32) (x4 x5 : Vec Ideal S1024x1 .i32) (x6 : Vec Ideal S1024x64 .f32) (x7 : Vec Ideal S1024x1 .f32)

/-- The second call's first result as one term of its inputs. -/
theorem newIp_eq : newIp x0 x1 x2 x3 x4 x5 x6 x7 = k1_pay3 x0 x1 (fst2 x2) (snd2 x2) x4 x5 x3 x7 := by
  unfold newIp
  rw [ld_col x0, ld_col x1, ld_two0 x2, ld_two1 x2, ld_col x4, ld_col x5, ld_mat x3, ld_col x7]
/-- The second call's second result as one term of its inputs. -/
theorem newHid_eq : newHid x0 x1 x2 x3 x4 x5 x6 x7 = k1_pay1 (k1_pay2 x0 x1 (fst2 x2) (snd2 x2) x4 x5 x3) (newIp x0 x1 x2 x3 x4 x5 x6 x7) x6 := by
  unfold newHid
  rw [ld_col x0, ld_col x1, ld_two0 x2, ld_two1 x2, ld_col x4, ld_col x5, ld_mat x3, ld_mat x6]

/-- The new instruction pointer from the blocks the body loads. -/
theorem newIp_apply (j : Fin 1024) (u : Fin 1) :
    newIp (F := Ideal) x0 x1 x2 x3 x4 x5 x6 x7 (ix2 j u) = (∑ i : Fin 1024, recv x0 x1 (fst2 x2) (snd2 x2) x4 x5 j i) + x7 (ix2 j u) := by
  rw [newIp_eq, k1_pay3_apply]
/-- The new hidden states from the blocks the body loads. -/
theorem newHid_apply (j : Fin 1024) (h : Fin 64) :
    newHid (F := Ideal) x0 x1 x2 x3 x4 x5 x6 x7 (ix2 j h)
      = Ideal.div ((∑ i : Fin 1024, (recv x0 x1 (fst2 x2) (snd2 x2) x4 x5 j i * x3 (ix2 i h) : EReal)) + x6 (ix2 j h)) ((∑ i : Fin 1024, recv x0 x1 (fst2 x2) (snd2 x2) x4 x5 j i) + x7 (ix2 j (0 : Fin 1)) + tiny) := by
  rw [newHid_eq, k1_pay1_apply, newIp_apply, k1_pay2_apply]
  simp only [h.isLt, dif_pos]

end Cert.KernelIdeal.Hand

end
-- ==== Proof.Value.Mid.lean ====
module

public import proofs.«01_k».proof.Proof.Value.Arrays
public import proofs.«01_k».proof.Proof.Value.Epi

/-! The program's two results, entry by entry of the arguments. -/

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

/-- The hidden states, as launched. -/
abbrev argHp : FVec Ideal S1024x64 .f32 := m ((c : Thread nD τ).loc main_arg3)
/-- The branch decisions, as launched. -/
abbrev argBr : FVec Ideal S1024x2 .f32 := m ((c : Thread nD τ).loc main_arg6)
/-- The blocks branched to when true, as launched. -/
abbrev argTi : IVec S1024 32 := m ((c : Thread nD τ).loc main_arg8)
/-- The blocks branched to when false, as launched. -/
abbrev argFi : IVec S1024 32 := m ((c : Thread nD τ).loc main_arg9)

/-- Result 0 of the first call after it. -/
theorem V2_v5_0 : V2 m (left0 m) c main_v5_0 = outs0_3 (bufs1 m) c tEnd := by
  refine Eq.trans ?_ (left_3 m c)
  unfold V2; rw [Function.update_of_ne (by decide), Function.update_of_ne (by decide), Function.update_self]
/-- Result 1 of the first call after it. -/
theorem V2_v5_1 : V2 m (left0 m) c main_v5_1 = outs0_4 (bufs1 m) c tEnd := by
  refine Eq.trans ?_ (left_4 m c)
  unfold V2; rw [Function.update_of_ne (by decide), Function.update_self]
/-- Result 2 of the first call after it. -/
theorem V2_v5_2 : V2 m (left0 m) c main_v5_2 = outs0_5 (bufs1 m) c tEnd := by
  refine Eq.trans ?_ (left_5 m c)
  unfold V2; rw [Function.update_self]
/-- A buffer neither the first host stretch nor the first call writes is as launched after the call. -/
theorem V2_arg (r : Ref sig .tc) (h : r ∉ ([main_v5_0, main_v5_1, main_v5_2] : List (Ref sig .tc))) (h' : r ∉ hostOps0_W) : V2 m (left0 m) c r = m ((c : Thread nD τ).loc r) :=
  (V2_of m _ c r h).trans (V1_of m c r h')
/-- A buffer nothing has written is as launched before the second call. -/
theorem V3_arg (r : Ref sig .tc) (h'' : r ∉ hostOps1_W) (h : r ∉ ([main_v5_0, main_v5_1, main_v5_2] : List (Ref sig .tc))) (h' : r ∉ hostOps0_W) : V3 m (left0 m) c r = m ((c : Thread nD τ).loc r) :=
  (V3_of m _ c r h'').trans (V2_arg m c r h h')

/-- The host's value `v6` before the second call. -/
theorem V3_v6 : V3 m (left0 m) c main_v6 = (shapeCast S1024x64 (V2 m (left0 m) c main_v5_0 : FVec Ideal S512x128 .f32) shapeCasts_S512x128_S1024x64 : _) := by
  show StableHlo.after hostOps1 (V2 m (left0 m) c) (Proc.devRef .tc main_v6) = _
  simp only [StableHlo.after_cons, StableHlo.after_nil]
  rfl
/-- The host's value `v6` before the second call, read at an index. -/
theorem V3_v6_apply (j : Fin 1024) (h : Fin 64) : (V3 m (left0 m) c main_v6 : FVec Ideal S1024x64 .f32) (ix2 j h) = ∑ i, ctx m c j h i := by
  rw [V3_v6, V2_v5_0]
  pointwise [out3_apply m c tEnd rfl]
  have e : (⟨j.val / 2 * 2 + (j.val % 2 * 64 + h.val) / 64, by omega⟩ : Fin 1024) = j := Fin.ext (by simp only; omega)
  have e' : (⟨(j.val % 2 * 64 + h.val) % 64, by omega⟩ : Fin 64) = h := Fin.ext (by simp only; omega)
  simp only [e, e']

/-- The host's value `v7` before the second call. -/
theorem V3_v7 : V3 m (left0 m) c main_v7 = (shapeCast S1024x1 (V2 m (left0 m) c main_v5_1 : FVec Ideal S512x2 .f32) shapeCasts_S512x2_S1024x1 : _) := by
  show StableHlo.after hostOps1 (V2 m (left0 m) c) (Proc.devRef .tc main_v7) = _
  simp only [StableHlo.after_cons, StableHlo.after_nil]
  rfl
/-- The host's value `v7` before the second call, read at an index. -/
theorem V3_v7_apply (j : Fin 1024) (u : Fin 1) : (V3 m (left0 m) c main_v7 : FVec Ideal S1024x1 .f32) (ix2 j u) = ∑ i, wgt m c j i := by
  rw [V3_v7, V2_v5_1]
  pointwise [out4_apply m c tEnd rfl]
  have e : (⟨j.val / 2 * 2 + j.val % 2, by omega⟩ : Fin 1024) = j := Fin.ext (by simp only; omega)
  simp only [e]

/-- The host's value `v8` before the second call. -/
theorem V3_v8 : V3 m (left0 m) c main_v8 = (shapeCast S1024x1 (V2 m (left0 m) c main_v5_2 : FVec Ideal S512x2 .f32) shapeCasts_S512x2_S1024x1 : _) := by
  show StableHlo.after hostOps1 (V2 m (left0 m) c) (Proc.devRef .tc main_v8) = _
  simp only [StableHlo.after_cons, StableHlo.after_nil]
  rfl
/-- The host's value `v8` before the second call, read at an index. -/
theorem V3_v8_apply (j : Fin 1024) (u : Fin 1) : (V3 m (left0 m) c main_v8 : FVec Ideal S1024x1 .f32) (ix2 j u) = argSd m c (ix2 j j) := by
  rw [V3_v8, V2_v5_2]
  pointwise [out5_apply m c tEnd rfl]
  have e : (⟨j.val / 2 * 2 + j.val % 2, by omega⟩ : Fin 1024) = j := Fin.ext (by simp only; omega)
  simp only [e]

/-- The host's value `v9` before the second call. -/
theorem V3_v9 : V3 m (left0 m) c main_v9 = (shapeCast S1024x1 (V2 m (left0 m) c main_arg1 : FVec Ideal S1024 .f32) shapeCasts_S1024_S1024x1 : _) := by
  show StableHlo.after hostOps1 (V2 m (left0 m) c) (Proc.devRef .tc main_v9) = _
  simp only [StableHlo.after_cons, StableHlo.after_nil]
  rfl
/-- The host's value `v9` before the second call, read at an index. -/
theorem V3_v9_apply (j : Fin 1024) (u : Fin 1) : (V3 m (left0 m) c main_v9 : FVec Ideal S1024x1 .f32) (ix2 j u) = argIp m c (ix1 j) := by
  rw [V3_v9, V2_arg m c main_arg1 (by decide) (by decide)]
  pointwise

/-- The host's value `v10` before the second call. -/
theorem V3_v10 : V3 m (left0 m) c main_v10 = (shapeCast S1024x1 (V2 m (left0 m) c main_arg8 : IVec S1024 32) shapeCasts_S1024_S1024x1 : _) := by
  show StableHlo.after hostOps1 (V2 m (left0 m) c) (Proc.devRef .tc main_v10) = _
  simp only [StableHlo.after_cons, StableHlo.after_nil]
  rfl
/-- The host's value `v10` before the second call, read at an index. -/
theorem V3_v10_apply (j : Fin 1024) (u : Fin 1) : (V3 m (left0 m) c main_v10 : IVec S1024x1 32) (ix2 j u) = argTi m c (ix1 j) := by
  rw [V3_v10, V2_arg m c main_arg8 (by decide) (by decide)]
  pointwise

/-- The host's value `v11` before the second call. -/
theorem V3_v11 : V3 m (left0 m) c main_v11 = (shapeCast S1024x1 (V2 m (left0 m) c main_arg9 : IVec S1024 32) shapeCasts_S1024_S1024x1 : _) := by
  show StableHlo.after hostOps1 (V2 m (left0 m) c) (Proc.devRef .tc main_v11) = _
  simp only [StableHlo.after_cons, StableHlo.after_nil]
  rfl
/-- The host's value `v11` before the second call, read at an index. -/
theorem V3_v11_apply (j : Fin 1024) (u : Fin 1) : (V3 m (left0 m) c main_v11 : IVec S1024x1 32) (ix2 j u) = argFi m c (ix1 j) := by
  rw [V3_v11, V2_arg m c main_arg9 (by decide) (by decide)]
  pointwise

end Cert.KernelIdeal.Hand

end
-- ==== Proof.Value.Results.lean ====
module

public import proofs.«01_k».proof.Proof.Value.Mid

/-! The program's two results, entry by entry of the arguments. -/

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

/-- The block of window 0 of call 1 is placed at the array's own coordinates. -/
theorem emb1_0 (t : Fin cfg1.N) (y : S1024x1.Idx) : ((cfg1.win 0).blk t).view.emb y = y := by
  funext a; apply Fin.ext
  match a with
  | ⟨0, _⟩ => show 0 * 1024 + 1 * (y 0).val = (y 0).val; omega
  | ⟨1, _⟩ => show 0 * 1 + 1 * (y 1).val = (y 1).val; omega
/-- The block of input window 0 of the second call is its whole array. -/
theorem blk1_0 (t : Fin cfg1.N) : iblk1 (bufs3 m) c 0 t = V3 m (left0 m) c main_v9 := by
  funext y
  show V3 m (left0 m) c main_v9 (((cfg1.win 0).blk t).view.emb y) = _
  rw [emb1_0]

/-- The block of window 1 of call 1 is placed at the array's own coordinates. -/
theorem emb1_1 (t : Fin cfg1.N) (y : S1024x1.Idx) : ((cfg1.win 1).blk t).view.emb y = y := by
  funext a; apply Fin.ext
  match a with
  | ⟨0, _⟩ => show 0 * 1024 + 1 * (y 0).val = (y 0).val; omega
  | ⟨1, _⟩ => show 0 * 1 + 1 * (y 1).val = (y 1).val; omega
/-- The block of input window 1 of the second call is its whole array. -/
theorem blk1_1 (t : Fin cfg1.N) : iblk1 (bufs3 m) c 1 t = V3 m (left0 m) c main_v8 := by
  funext y
  show V3 m (left0 m) c main_v8 (((cfg1.win 1).blk t).view.emb y) = _
  rw [emb1_1]

/-- The block of window 2 of call 1 is placed at the array's own coordinates. -/
theorem emb1_2 (t : Fin cfg1.N) (y : S1024x2.Idx) : ((cfg1.win 2).blk t).view.emb y = y := by
  funext a; apply Fin.ext
  match a with
  | ⟨0, _⟩ => show 0 * 1024 + 1 * (y 0).val = (y 0).val; omega
  | ⟨1, _⟩ => show 0 * 2 + 1 * (y 1).val = (y 1).val; omega
/-- The block of input window 2 of the second call is its whole array. -/
theorem blk1_2 (t : Fin cfg1.N) : iblk1 (bufs3 m) c 2 t = V3 m (left0 m) c main_arg6 := by
  funext y
  show V3 m (left0 m) c main_arg6 (((cfg1.win 2).blk t).view.emb y) = _
  rw [emb1_2]

/-- The block of window 3 of call 1 is placed at the array's own coordinates. -/
theorem emb1_3 (t : Fin cfg1.N) (y : S1024x64.Idx) : ((cfg1.win 3).blk t).view.emb y = y := by
  funext a; apply Fin.ext
  match a with
  | ⟨0, _⟩ => show 0 * 1024 + 1 * (y 0).val = (y 0).val; omega
  | ⟨1, _⟩ => show 0 * 64 + 1 * (y 1).val = (y 1).val; omega
/-- The block of input window 3 of the second call is its whole array. -/
theorem blk1_3 (t : Fin cfg1.N) : iblk1 (bufs3 m) c 3 t = V3 m (left0 m) c main_arg3 := by
  funext y
  show V3 m (left0 m) c main_arg3 (((cfg1.win 3).blk t).view.emb y) = _
  rw [emb1_3]

/-- The block of window 4 of call 1 is placed at the array's own coordinates. -/
theorem emb1_4 (t : Fin cfg1.N) (y : S1024x1.Idx) : ((cfg1.win 4).blk t).view.emb y = y := by
  funext a; apply Fin.ext
  match a with
  | ⟨0, _⟩ => show 0 * 1024 + 1 * (y 0).val = (y 0).val; omega
  | ⟨1, _⟩ => show 0 * 1 + 1 * (y 1).val = (y 1).val; omega
/-- The block of input window 4 of the second call is its whole array. -/
theorem blk1_4 (t : Fin cfg1.N) : iblk1 (bufs3 m) c 4 t = V3 m (left0 m) c main_v10 := by
  funext y
  show V3 m (left0 m) c main_v10 (((cfg1.win 4).blk t).view.emb y) = _
  rw [emb1_4]

/-- The block of window 5 of call 1 is placed at the array's own coordinates. -/
theorem emb1_5 (t : Fin cfg1.N) (y : S1024x1.Idx) : ((cfg1.win 5).blk t).view.emb y = y := by
  funext a; apply Fin.ext
  match a with
  | ⟨0, _⟩ => show 0 * 1024 + 1 * (y 0).val = (y 0).val; omega
  | ⟨1, _⟩ => show 0 * 1 + 1 * (y 1).val = (y 1).val; omega
/-- The block of input window 5 of the second call is its whole array. -/
theorem blk1_5 (t : Fin cfg1.N) : iblk1 (bufs3 m) c 5 t = V3 m (left0 m) c main_v11 := by
  funext y
  show V3 m (left0 m) c main_v11 (((cfg1.win 5).blk t).view.emb y) = _
  rw [emb1_5]

/-- The block of window 6 of call 1 is placed at the array's own coordinates. -/
theorem emb1_6 (t : Fin cfg1.N) (y : S1024x64.Idx) : ((cfg1.win 6).blk t).view.emb y = y := by
  funext a; apply Fin.ext
  match a with
  | ⟨0, _⟩ => show 0 * 1024 + 1 * (y 0).val = (y 0).val; omega
  | ⟨1, _⟩ => show 0 * 64 + 1 * (y 1).val = (y 1).val; omega
/-- The block of input window 6 of the second call is its whole array. -/
theorem blk1_6 (t : Fin cfg1.N) : iblk1 (bufs3 m) c 6 t = V3 m (left0 m) c main_v6 := by
  funext y
  show V3 m (left0 m) c main_v6 (((cfg1.win 6).blk t).view.emb y) = _
  rw [emb1_6]

/-- The block of window 7 of call 1 is placed at the array's own coordinates. -/
theorem emb1_7 (t : Fin cfg1.N) (y : S1024x1.Idx) : ((cfg1.win 7).blk t).view.emb y = y := by
  funext a; apply Fin.ext
  match a with
  | ⟨0, _⟩ => show 0 * 1024 + 1 * (y 0).val = (y 0).val; omega
  | ⟨1, _⟩ => show 0 * 1 + 1 * (y 1).val = (y 1).val; omega
/-- The block of input window 7 of the second call is its whole array. -/
theorem blk1_7 (t : Fin cfg1.N) : iblk1 (bufs3 m) c 7 t = V3 m (left0 m) c main_v7 := by
  funext y
  show V3 m (left0 m) c main_v7 (((cfg1.win 7).blk t).view.emb y) = _
  rw [emb1_7]

/-- The block of window 8 of call 1 is placed at the array's own coordinates. -/
theorem emb1_8 (t : Fin cfg1.N) (y : S1024x1.Idx) : ((cfg1.win 8).blk t).view.emb y = y := by
  funext a; apply Fin.ext
  match a with
  | ⟨0, _⟩ => show 0 * 1024 + 1 * (y 0).val = (y 0).val; omega
  | ⟨1, _⟩ => show 0 * 1 + 1 * (y 1).val = (y 1).val; omega

/-- The block of window 9 of call 1 is placed at the array's own coordinates. -/
theorem emb1_9 (t : Fin cfg1.N) (y : S1024x64.Idx) : ((cfg1.win 9).blk t).view.emb y = y := by
  funext a; apply Fin.ext
  match a with
  | ⟨0, _⟩ => show 0 * 1024 + 1 * (y 0).val = (y 0).val; omega
  | ⟨1, _⟩ => show 0 * 64 + 1 * (y 1).val = (y 1).val; omega

/-- The new instruction pointer, from the buffers the second region finds. -/
abbrev ipOut : Vec Ideal S1024x1 .f32 := newIp (V3 m (left0 m) c main_v9) (V3 m (left0 m) c main_v8) (V3 m (left0 m) c main_arg6) (V3 m (left0 m) c main_arg3) (V3 m (left0 m) c main_v10) (V3 m (left0 m) c main_v11) (V3 m (left0 m) c main_v6) (V3 m (left0 m) c main_v7)
/-- The new hidden states, from the buffers the second region finds. -/
abbrev hidOut : Vec Ideal S1024x64 .f32 := newHid (V3 m (left0 m) c main_v9) (V3 m (left0 m) c main_v8) (V3 m (left0 m) c main_arg6) (V3 m (left0 m) c main_arg3) (V3 m (left0 m) c main_v10) (V3 m (left0 m) c main_v11) (V3 m (left0 m) c main_v6) (V3 m (left0 m) c main_v7)

/-- What output window 8 of the second call writes back. -/
theorem flushed1_8 (t : Fin cfg1.N) : (dat1 (bufs3 m) c).flushed 8 t = ((cfg1.win 8).blk t).view.read (Elt Ideal) (ipOut m c) := by
  show (cfg1.win 8).cut (grid1.coords t) ((dat1 (bufs3 m) c).after 8 t) = _
  rw [after1_8]
  unfold out1_8
  rw [View.canon_unit_zero off2, blk1_0, blk1_1, blk1_2, blk1_3, blk1_4, blk1_5, blk1_6, blk1_7]
  funext y
  show ipOut m c y = ipOut m c (((cfg1.win 8).blk t).view.emb y)
  rw [emb1_8]
/-- The region leaves its result at what its one point stores. -/
theorem arr1_8 : (dat1 (bufs3 m) c).arrAt 8 cfg1.N = ipOut m c := by
  refine (dat1 (bufs3 m) c).arrAt_eq_of_cover 8 (ipOut m c) (fun t _ => flushed1_8 m c t) (fun i => ⟨⟨0, by decide⟩, flush1_8 _, ?_⟩)
  have h := ((cfg1.win 8).blk (⟨0, by decide⟩ : Fin cfg1.N)).view.emb_mem_set i
  rwa [emb1_8] at h
/-- The array window 8 leaves when its call ends. -/
theorem left_8 : outs m 4 main_v12_0 c = ipOut m c :=
  (outs_four m main_v12_0 c).trans ((Pipeline.afterRegion_arr (dat1 (bufs3 m) c) (V3 m (left0 m) c) launch1.win.arr_inj 8).trans (arr1_8 m c))

/-- What output window 9 of the second call writes back. -/
theorem flushed1_9 (t : Fin cfg1.N) : (dat1 (bufs3 m) c).flushed 9 t = ((cfg1.win 9).blk t).view.read (Elt Ideal) (hidOut m c) := by
  show (cfg1.win 9).cut (grid1.coords t) ((dat1 (bufs3 m) c).after 9 t) = _
  rw [after1_9]
  unfold out1_9
  rw [View.canon_unit_zero off2, blk1_0, blk1_1, blk1_2, blk1_3, blk1_4, blk1_5, blk1_6, blk1_7]
  funext y
  show hidOut m c y = hidOut m c (((cfg1.win 9).blk t).view.emb y)
  rw [emb1_9]
/-- The region leaves its result at what its one point stores. -/
theorem arr1_9 : (dat1 (bufs3 m) c).arrAt 9 cfg1.N = hidOut m c := by
  refine (dat1 (bufs3 m) c).arrAt_eq_of_cover 9 (hidOut m c) (fun t _ => flushed1_9 m c t) (fun i => ⟨⟨0, by decide⟩, flush1_9 _, ?_⟩)
  have h := ((cfg1.win 9).blk (⟨0, by decide⟩ : Fin cfg1.N)).view.emb_mem_set i
  rwa [emb1_9] at h
/-- The array window 9 leaves when its call ends. -/
theorem left_9 : outs m 4 main_v12_1 c = hidOut m c :=
  (outs_four m main_v12_1 c).trans ((Pipeline.afterRegion_arr (dat1 (bufs3 m) c) (V3 m (left0 m) c) launch1.win.arr_inj 9).trans (arr1_9 m c))

/-- Branch `i`'s two probabilities as block `j` receives them. -/
def got (j i : Fin 1024) : EReal :=
  (if argTi m c (ix1 i) = BitVec.ofNat 32 j.val then argIp m c (ix1 i) * argSd m c (ix2 i i) * argBr m c (ix2 i (0 : Fin 2)) else 0)
    + (if argFi m c (ix1 i) = BitVec.ofNat 32 j.val then argIp m c (ix1 i) * argSd m c (ix2 i i) * argBr m c (ix2 i (1 : Fin 2)) else 0)
/-- Block `j`'s new instruction pointer. -/
def ipAt (j : Fin 1024) : EReal := (∑ i, got m c j i) + ∑ i, wgt m c j i
/-- Block `j`'s new hidden state. -/
def hidAt (j : Fin 1024) (h : Fin 64) : EReal := Ideal.div ((∑ i, got m c j i * argHp m c (ix2 i h)) + ∑ i, ctx m c j h i) (ipAt m c j + tiny)

/-- What an entry receives from a row, read off the arguments. -/
theorem recv_got (j i : Fin 1024) : recv (V3 m (left0 m) c main_v9) (V3 m (left0 m) c main_v8) (fst2 (V3 m (left0 m) c main_arg6)) (snd2 (V3 m (left0 m) c main_arg6)) (V3 m (left0 m) c main_v10) (V3 m (left0 m) c main_v11) j i = got m c j i := by
  unfold recv got
  rw [V3_v9_apply, V3_v8_apply, V3_v10_apply, V3_v11_apply, V3_arg m c main_arg6 (by decide) (by decide) (by decide)]
  rfl

/-- The second call's first result, entry by entry. -/
theorem ipOut_apply (j : Fin 1024) (u : Fin 1) : ipOut m c (ix2 j u) = ipAt m c j := by
  unfold ipOut ipAt
  rw [newIp_apply, V3_v7_apply]
  exact congrArg (fun z : EReal => z + ∑ i, wgt m c j i) (Finset.sum_congr rfl fun i _ => recv_got m c j i)
/-- The second call's second result, entry by entry. -/
theorem hidOut_apply (j : Fin 1024) (h : Fin 64) : hidOut m c (ix2 j h) = hidAt m c j h := by
  unfold hidOut hidAt ipAt
  rw [newHid_apply, V3_v7_apply, V3_v6_apply, V3_arg m c main_arg3 (by decide) (by decide) (by decide)]
  refine congrArg₂ Ideal.div (congrArg (fun z : EReal => z + ∑ i, ctx m c j h i) (Finset.sum_congr rfl fun i _ => ?_)) (congrArg (fun z : EReal => z + ∑ i, wgt m c j i + tiny) (Finset.sum_congr rfl fun i _ => recv_got m c j i))
  exact congrArg (fun z : EReal => z * argHp m c (ix2 i h)) (recv_got m c j i)

/-- The first result: the new instruction pointers. -/
theorem V5_v13 : V5 m (outs m) c main_v13 = (fun y => ipAt m c (y 0) : FVec Ideal S1024 .f32) := by
  have e : V5 m (outs m) c main_v13 = (shapeCast S1024 (V4 m (outs m) c main_v12_0 : FVec Ideal S1024x1 .f32) shapeCasts_S1024x1_S1024 : FVec Ideal S1024 .f32) := by
    show StableHlo.after hostOps2 (V4 m (outs m) c) (Proc.devRef .tc main_v13) = _
    simp only [StableHlo.after_cons, StableHlo.after_nil]
    rfl
  have e4 : V4 m (outs m) c main_v12_0 = ipOut m c := by
    refine Eq.trans ?_ (left_8 m c)
    unfold V4; rw [Function.update_of_ne (by decide), Function.update_self]
  rw [e, e4]
  funext y
  obtain ⟨j, rfl⟩ : ∃ j : Fin 1024, y = ix1 j := ⟨y 0, by funext a; match a with | ⟨0, _⟩ => rfl⟩
  pointwise
  exact ipOut_apply m c j 0
/-- The second result: the new hidden states. -/
theorem V5_v12_1 : V5 m (outs m) c main_v12_1 = (fun y => hidAt m c (y 0) (y 1) : FVec Ideal S1024x64 .f32) := by
  have e4 : V5 m (outs m) c main_v12_1 = hidOut m c := by
    refine (V5_of m (outs m) c main_v12_1 (by decide)).trans (Eq.trans ?_ (left_9 m c))
    unfold V4; rw [Function.update_self]
  rw [e4]
  funext y
  obtain ⟨j, h, rfl⟩ : ∃ (j : Fin 1024) (h : Fin 64), y = ix2 j h := ⟨y 0, y 1, by funext a; match a with | ⟨0, _⟩ => rfl | ⟨1, _⟩ => rfl⟩
  exact hidOut_apply m c j h

end Cert.KernelIdeal.Hand

end
-- ==== Proof.Value.Agree.lean ====
module

public import proofs.«01_k».proof.Proof.Value.Reference
public import proofs.«01_k».proof.Proof.Value.Results

/-! The two programs compute the same sums. -/

@[expose] public section

set_option maxRecDepth 16384

noncomputable section

namespace Cert.Agree

open Cert.KernelIdeal Cert.KernelIdeal.Hand
open Idealize.ShloMosaic Idealize.ShloMosaic.TcCoe Idealize.ShloMosaic.Tactic

variable (m : (ℓ : Loc nD τ sig) → Buf (Elt Ideal) ℓ) (c : Dev nD)

/-- The kernel's weight off the diagonal is the reference's. -/
theorem wgt_eq (j i : Fin 1024) : wgt m c j i = Cert.ReferenceIdeal.Hand.off (argIp m c) (argSd m c) i j := mul_comm _ _

/-- The first result: what an entry receives along the two branches and off the diagonal. -/
theorem first (j : Fin 1024) : ipAt m c j
    = Cert.ReferenceIdeal.Read.val_main_v47 (F := Ideal) (argIp m c) (argSd m c) (argBr m c) (argTi m c) (argFi m c) (ix1 j) := by
  refine Eq.trans ?_ (Cert.ReferenceIdeal.Hand.v47_at (argIp m c) (argSd m c) (argBr m c) (argTi m c) (argFi m c) j).symm
  refine congrArg₂ (fun a b : EReal => a + b) ?_ (Finset.sum_congr rfl fun i _ => wgt_eq m c j i)
  exact Finset.sum_add_distrib

/-- Where a sum of two is real, both are. -/
theorem real_parts {a b : EReal} (h : ∃ r : ℝ, a + b = r) : (∃ r : ℝ, a = r) ∧ ∃ r : ℝ, b = r := by
  obtain ⟨r, h⟩ := h
  have ha : a ≠ ⊥ := fun e => EReal.bot_ne_coe r (by rw [← h, e, EReal.bot_add])
  have hb : b ≠ ⊥ := fun e => EReal.bot_ne_coe r (by rw [← h, e, EReal.add_bot])
  have ha' : a ≠ ⊤ := fun e => EReal.top_ne_coe r (by rw [← h, e, EReal.top_add_of_ne_bot hb])
  have hb' : b ≠ ⊤ := fun e => EReal.top_ne_coe r (by rw [← h, e, EReal.add_top_of_ne_bot ha])
  exact ⟨⟨a.toReal, (EReal.coe_toReal ha' ha).symm⟩, ⟨b.toReal, (EReal.coe_toReal hb' hb).symm⟩⟩

/-- Where a finite sum is real, every term is. -/
theorem real_terms {ι : Type} [DecidableEq ι] (f : ι → EReal) (s : Finset ι) : (∃ r : ℝ, ∑ i ∈ s, f i = r) → ∀ i ∈ s, ∃ r : ℝ, f i = r := by
  induction s using Finset.induction_on with
  | empty => exact fun _ i hi => absurd hi (Finset.notMem_empty i)
  | insert a s ha ih =>
    intro h i hi
    rw [Finset.sum_insert ha] at h
    rcases Finset.mem_insert.mp hi with rfl | hi
    · exact (real_parts h).1
    · exact ih (real_parts h).2 i hi

/-- Two guarded shares whose sum is real, times a real payload: the sum of the guarded products. -/
theorem split_real {p q : Prop} [Decidable p] [Decidable q] (a b d : EReal) (hab : ∃ r : ℝ, (if p then a else 0) + (if q then b else 0) = (r : EReal))
    (hd : ∃ r : ℝ, d = r) : ((if p then a else 0) + (if q then b else 0)) * d = (if p then d * a else 0) + (if q then d * b else 0) := by
  obtain ⟨⟨x, hx⟩, ⟨y, hy⟩⟩ := real_parts hab
  obtain ⟨d, rfl⟩ := hd
  have e (p : Prop) [Decidable p] (a : EReal) : (if p then (d : EReal) * a else 0) = d * (if p then a else 0) := by
    by_cases hp : p <;> simp only [hp, if_true, if_false, mul_zero]
  rw [e p a, e q b, hx, hy, ← EReal.coe_add, ← EReal.coe_mul, ← EReal.coe_mul, ← EReal.coe_mul, ← EReal.coe_add]
  exact congrArg _ (by ring)

/-- The literal under the quotient is real. -/
theorem tiny_real : ∃ r : ℝ, Ideal.ofBits FTy.f32 0x33D6BF95#32 = (r : EReal) := by
  simp [Ideal.ofBits, Ideal.ieee]
  exact ⟨_, rfl⟩

/-- By an infinity and a literal any quotient is zero. -/
theorem div_infinite (x y : EReal) (h : ¬∃ r : ℝ, y = r) : Ideal.div x (y + Ideal.ofBits FTy.f32 0x33D6BF95#32) = 0 := by
  obtain ⟨t, ht⟩ := tiny_real
  rw [ht]
  unfold Ideal.div
  induction y using EReal.rec with
  | bot => rw [EReal.bot_add, if_neg EReal.bot_ne_zero, EReal.inv_bot, mul_zero]
  | coe r => exact absurd ⟨r, rfl⟩ h
  | top => rw [EReal.top_add_coe, if_neg EReal.top_ne_zero, EReal.inv_top, mul_zero]

/-- The second result, when the payloads are real: where the first result is real so are the shares, and elsewhere both quotients are zero. -/
theorem second (hhp : ∀ (i : Fin 1024) (k : Fin 64), ∃ r : ℝ, (argHp m c (ix2 i k) : EReal) = r) (j : Fin 1024) (h : Fin 64) :
    hidAt m c j h = Cert.ReferenceIdeal.Read.val_main_v70 (F := Ideal) (argIp m c) (argHp m c) (argHs m c) (argSd m c) (argBr m c) (argTi m c)
      (argFi m c) (ix2 j h) := by
  refine Eq.trans ?_ (Cert.ReferenceIdeal.Hand.v70_at (argIp m c) (argHp m c) (argHs m c) (argSd m c) (argBr m c) (argTi m c) (argFi m c) j h).symm
  rw [← first m c j]
  by_cases hr : ∃ r : ℝ, ipAt m c j = r
  · have hgot (i : Fin 1024) := real_terms (fun i => got m c j i) Finset.univ (real_parts hr).1 i (Finset.mem_univ i)
    refine congrArg₂ Ideal.div ?_ rfl
    refine congrArg₂ (fun a b : EReal => a + b) ?_ (Finset.sum_congr rfl fun i _ => congrArg (fun a : EReal => argHs m c (ix3 i j h) * a) (wgt_eq m c j i))
    refine Eq.trans (Finset.sum_congr rfl fun i _ => ?_) Finset.sum_add_distrib
    exact split_real _ _ _ (hgot i) (hhp i h)
  · exact (div_infinite _ _ hr).trans (div_infinite _ _ hr).symm

end Cert.Agree

end
-- ==== Proof.Value.Finite.lean ====
module

public import proofs.«01_k».proof.Pre_finite_proposals
public import proofs.«01_k».proof.Proof.Value.Diag

/-! What the precondition says: the payloads are finite. -/

@[expose] public section

set_option maxRecDepth 16384

noncomputable section

namespace Cert.Pre_finite_proposals.Hand

open Cert.Pre_finite_proposals
open Idealize.ShloMosaic Idealize.ShloMosaic.TcCoe Idealize.ShloMosaic.Tactic

/-- The shape relations the precondition's operations take. -/
theorem facts : Facts where
  bcast_S_S1024x64 := by decide

attribute [local instance] facts

/-- An extended real whose absolute value is below infinity is a real number. -/
theorem real_of_abs (x : EReal) (h : FloatOps.cmpf (F := Ideal) (φ := .f32) .olt (FloatOps.hostAbsf (F := Ideal) (φ := .f32) x)
    (FloatOps.ofBits (F := Ideal) .f32 0x7F800000#32) = 1#1) : ∃ r : ℝ, x = r := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  induction x using EReal.rec with
  | bot => simp at h'
  | coe r => exact ⟨r, rfl⟩
  | top => simp at h'

variable (a0 : IVec S_ 32) (ip : FVec Ideal S1024 .f32) (a2 : FVec Ideal S1024x64 .f32) (hp : FVec Ideal S1024x64 .f32)
  (hs : FVec Ideal S1024x1024x64 .f32) (sd : FVec Ideal S1024x1024 .f32) (br : FVec Ideal S1024x2 .f32) (a7 : FVec Ideal S1024x64 .f32)
  (ti fi : IVec S1024 32)

/-- The payloads are real. -/
theorem hp_real (h : fn (F := Ideal) a0 ip a2 hp hs sd br a7 ti fi = fun _ => 1#1) (i : Fin 1024) (k : Fin 64) :
    ∃ r : ℝ, (hp (ix2 i k) : EReal) = r :=
  real_of_abs _ (congrFun h (ix2 i k))

end Cert.Pre_finite_proposals.Hand

end
-- ==== Proof.Equal.lean ====
module

public import proofs.«01_k».proof.Defs
public import proofs.«01_k».proof.Proof.Ideal.Main
public import proofs.«01_k».proof.Proof.Value.Agree
public import proofs.«01_k».proof.Proof.Value.Finite

/-! The two programs, run from the same arguments, leave the same two results. -/

@[expose] public section

set_option maxRecDepth 16384

noncomputable section

namespace Cert.Proof

open Cert.KernelIdeal.Gen Cert.KernelIdeal.Hand Idealize.SL.Sem
open Idealize.ShloMosaic Idealize.ShloMosaic.TcCoe Idealize.ShloMosaic.Tactic

/-- Under the precondition the kernel and the reference, over extended reals, end with equal results and their arguments kept. -/
theorem equal_results : Cert.algebraic_KernelIdeal_ReferenceIdeal_pre_finite_proposals (hKernelIdeal := Cert.KernelIdeal.Gen.facts)
    (hReferenceIdeal := Cert.ReferenceIdeal.Gen.facts) (hPre_finite_proposals := Cert.Pre_finite_proposals.Hand.facts) := by
  intro m g m' g' hpre hagree
  refine ⟨fun c => V5 m (outs m) c Cert.KernelIdeal.main_v13, fun c => V5 m (outs m) c Cert.KernelIdeal.main_v12_1, ?_, ?_⟩
  · refine (θ_run _ _ _).mono (fun r h c => ?_) (run_main (F := Ideal) m g)
    obtain ⟨h₀, h₁, h₂, h₃, h₄, h₅, h₆, h₇, h₈, h₉, p, q⟩ := h.1 c
    exact ⟨p, q, h₀, h₁, h₂, h₃, h₄, h₅, h₆, h₇, h₈, h₉⟩
  · refine (θ_run _ _ _).mono (fun r h c => ?_) (Cert.ReferenceIdeal.Value.run (F := Ideal) m' g')
    obtain ⟨p, q, rest⟩ := h c
    obtain ⟨e₀, e₁, e₂, e₃, e₄, e₅, e₆, e₇, e₈, e₉⟩ := hagree c
    refine ⟨(p.trans (Cert.ReferenceIdeal.Read.val_main_v47_eq (F := Ideal) _ _ _ _ _)).trans ?_,
      (q.trans (Cert.ReferenceIdeal.Read.val_main_v70_eq (F := Ideal) m' c)).trans ?_, rest⟩
    · rw [e₁, e₅, e₆, e₈, e₉]
      refine Eq.trans ?_ (V5_v13 m c).symm
      funext y
      obtain ⟨j, rfl⟩ : ∃ j : Fin 1024, y = ix1 j := ⟨y 0, eq_ix1 y⟩
      exact (Cert.Agree.first m c j).symm
    · rw [e₁, e₃, e₄, e₅, e₆, e₈, e₉]
      refine Eq.trans ?_ (V5_v12_1 m c).symm
      funext y
      obtain ⟨j, k, rfl⟩ : ∃ (j : Fin 1024) (k : Fin 64), y = ix2 j k := ⟨y 0, y 1, eq_ix2 y⟩
      exact (Cert.Agree.second m c (Cert.Pre_finite_proposals.Hand.hp_real _ _ _ _ _ _ _ _ _ _ (hpre c)) j k).symm

end Cert.Proof

end
-- ==== Proof.lean ====
module

public import proofs.«01_k».proof.Defs
public import proofs.«01_k».proof.Proof.Plain.Main
public import proofs.«01_k».proof.Proof.Ideal.Main
public import proofs.«01_k».proof.Proof.Frames
public import proofs.«01_k».proof.Proof.Equal

@[expose] public section

noncomputable section

namespace Cert.Proof

open Idealize.ShloMosaic Idealize.SL.Sem

/-- The claims together: the frames, the agreement of the two prints of the kernel, and the equality of the kernel's and the reference's results. -/
theorem claim : Cert.Claim :=
  ⟨Cert.Kernel.Gen.facts, Cert.KernelIdeal.Gen.facts, Cert.ReferenceIdeal.Gen.facts, Cert.Pre_finite_proposals.Hand.facts,
    frame_kernel, frame_ideal, fun m g _ => frame_ideal m g trivial, frame_reference, fun m g _ => frame_reference m g trivial,
    trivial, equal_results⟩

end Cert.Proof

end
